-- ==== Defs.lean ====
def Pre_Masks (m : (ℓ : Loc Cert.Masks.nD Cert.Masks.τ Cert.Masks.sig) → Buf (Elt Bits) ℓ) : Prop :=
  True

def Pre_MasksIdeal (m : (ℓ : Loc Cert.MasksIdeal.nD Cert.MasksIdeal.τ Cert.MasksIdeal.sig) → Buf (Elt Ideal) ℓ) : Prop :=
  True

def Pre_MasksRefIdeal (m : (ℓ : Loc Cert.MasksRefIdeal.nD Cert.MasksRefIdeal.τ Cert.MasksRefIdeal.sig) → Buf (Elt Ideal) ℓ) : Prop :=
  True

def Pre_SelectIdeal (m : (ℓ : Loc Cert.SelectIdeal.nD Cert.SelectIdeal.τ Cert.SelectIdeal.sig) → Buf (Elt Ideal) ℓ) : Prop :=
  True

def Pre_SelectIdeal_extents [hPre_extents : Cert.Pre_extents.Facts] (m : (ℓ : Loc Cert.SelectIdeal.nD Cert.SelectIdeal.τ Cert.SelectIdeal.sig) → Buf (Elt Ideal) ℓ) : Prop :=
  ∀ c : Dev Cert.SelectIdeal.nD,
    (Cert.Pre_extents.fn (F := Ideal) (m ((c.tc : Thread Cert.SelectIdeal.nD Cert.SelectIdeal.τ).loc Cert.SelectIdeal.main_arg0))) = (fun _ => 1#1)

def Pre_SelectRefIdeal (m : (ℓ : Loc Cert.SelectRefIdeal.nD Cert.SelectRefIdeal.τ Cert.SelectRefIdeal.sig) → Buf (Elt Ideal) ℓ) : Prop :=
  True

def Pre_SelectRefIdeal_extents [hPre_extents : Cert.Pre_extents.Facts] (m : (ℓ : Loc Cert.SelectRefIdeal.nD Cert.SelectRefIdeal.τ Cert.SelectRefIdeal.sig) → Buf (Elt Ideal) ℓ) : Prop :=
  ∀ c : Dev Cert.SelectRefIdeal.nD,
    (Cert.Pre_extents.fn (F := Ideal) (m ((c.tc : Thread Cert.SelectRefIdeal.nD Cert.SelectRefIdeal.τ).loc Cert.SelectRefIdeal.main_arg0))) = (fun _ => 1#1)

def quiescent_Masks [hMasks : Cert.Masks.Facts] : Prop :=
  ∀ (m : (ℓ : Loc Cert.Masks.nD Cert.Masks.τ Cert.Masks.sig) → Buf (Elt Bits) ℓ) (g : Dev Cert.Masks.nD → PrngReg), Pre_Masks m →
    θ_run (Cert.Masks.defs (F := Bits)) (onTc (τ := Cert.Masks.τ) (Cert.Masks.main (F := Bits))) ⟨m, fun _ => 0, g⟩ (fun r => (∀ c : Dev Cert.Masks.nD,
      r.2.mem ((c.tc : Thread Cert.Masks.nD Cert.Masks.τ).loc Cert.Masks.main_arg0) = m ((c.tc : Thread Cert.Masks.nD Cert.Masks.τ).loc Cert.Masks.main_arg0)
      ∧ r.2.mem ((c.tc : Thread Cert.Masks.nD Cert.Masks.τ).loc Cert.Masks.main_arg1) = m ((c.tc : Thread Cert.Masks.nD Cert.Masks.τ).loc Cert.Masks.main_arg1))
      ∧ r.2.sem = fun _ => 0)

def quiescent_MasksIdeal [hMasksIdeal : Cert.MasksIdeal.Facts] : Prop :=
  ∀ (m : (ℓ : Loc Cert.MasksIdeal.nD Cert.MasksIdeal.τ Cert.MasksIdeal.sig) → Buf (Elt Ideal) ℓ) (g : Dev Cert.MasksIdeal.nD → PrngReg), Pre_MasksIdeal m →
    θ_run (Cert.MasksIdeal.defs (F := Ideal)) (onTc (τ := Cert.MasksIdeal.τ) (Cert.MasksIdeal.main (F := Ideal))) ⟨m, fun _ => 0, g⟩ (fun r => (∀ c : Dev Cert.MasksIdeal.nD,
      r.2.mem ((c.tc : Thread Cert.MasksIdeal.nD Cert.MasksIdeal.τ).loc Cert.MasksIdeal.main_arg0) = m ((c.tc : Thread Cert.MasksIdeal.nD Cert.MasksIdeal.τ).loc Cert.MasksIdeal.main_arg0)
      ∧ r.2.mem ((c.tc : Thread Cert.MasksIdeal.nD Cert.MasksIdeal.τ).loc Cert.MasksIdeal.main_arg1) = m ((c.tc : Thread Cert.MasksIdeal.nD Cert.MasksIdeal.τ).loc Cert.MasksIdeal.main_arg1))
      ∧ r.2.sem = fun _ => 0)

def quiescent_MasksRefIdeal [hMasksRefIdeal : Cert.MasksRefIdeal.Facts] : Prop :=
  ∀ (m : (ℓ : Loc Cert.MasksRefIdeal.nD Cert.MasksRefIdeal.τ Cert.MasksRefIdeal.sig) → Buf (Elt Ideal) ℓ) (g : Dev Cert.MasksRefIdeal.nD → PrngReg), Pre_MasksRefIdeal m →
    θ_run (Cert.MasksRefIdeal.defs (F := Ideal)) (onTc (τ := Cert.MasksRefIdeal.τ) (Cert.MasksRefIdeal.main (F := Ideal))) ⟨m, fun _ => 0, g⟩ (fun r => (∀ c : Dev Cert.MasksRefIdeal.nD,
      r.2.mem ((c.tc : Thread Cert.MasksRefIdeal.nD Cert.MasksRefIdeal.τ).loc Cert.MasksRefIdeal.main_arg0) = m ((c.tc : Thread Cert.MasksRefIdeal.nD Cert.MasksRefIdeal.τ).loc Cert.MasksRefIdeal.main_arg0)
      ∧ r.2.mem ((c.tc : Thread Cert.MasksRefIdeal.nD Cert.MasksRefIdeal.τ).loc Cert.MasksRefIdeal.main_arg1) = m ((c.tc : Thread Cert.MasksRefIdeal.nD Cert.MasksRefIdeal.τ).loc Cert.MasksRefIdeal.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectIdeal_pre_extents [hSelectIdeal : Cert.SelectIdeal.Facts] [hPre_extents : Cert.Pre_extents.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_extents m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ r.2.sem = fun _ => 0)

def quiescent_SelectRefIdeal [hSelectRefIdeal : Cert.SelectRefIdeal.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def quiescent_SelectRefIdeal_pre_extents [hSelectRefIdeal : Cert.SelectRefIdeal.Facts] [hPre_extents : Cert.Pre_extents.Facts] : Prop :=
  ∀ (m : (ℓ : Loc Cert.SelectRefIdeal.nD Cert.SelectRefIdeal.τ Cert.SelectRefIdeal.sig) → Buf (Elt Ideal) ℓ) (g : Dev Cert.SelectRefIdeal.nD → PrngReg), Pre_SelectRefIdeal_extents m →
    θ_run (Cert.SelectRefIdeal.defs (F := Ideal)) (onTc (τ := Cert.SelectRefIdeal.τ) (Cert.SelectRefIdeal.main (F := Ideal))) ⟨m, fun _ => 0, g⟩ (fun r => (∀ c : Dev Cert.SelectRefIdeal.nD,
      r.2.mem ((c.tc : Thread Cert.SelectRefIdeal.nD Cert.SelectRefIdeal.τ).loc Cert.SelectRefIdeal.main_arg0) = m ((c.tc : Thread Cert.SelectRefIdeal.nD Cert.SelectRefIdeal.τ).loc Cert.SelectRefIdeal.main_arg0))
      ∧ r.2.sem = fun _ => 0)

def preserves_Masks_MasksIdeal : Prop :=
  True

def algebraic_MasksIdeal_MasksRefIdeal [hMasksIdeal : Cert.MasksIdeal.Facts] [hMasksRefIdeal : Cert.MasksRefIdeal.Facts] : Prop :=
  ∀ (m : (ℓ : Loc Cert.MasksIdeal.nD Cert.MasksIdeal.τ Cert.MasksIdeal.sig) → Buf (Elt Ideal) ℓ) (g : Dev Cert.MasksIdeal.nD → PrngReg)
    (m' : (ℓ : Loc Cert.MasksRefIdeal.nD Cert.MasksRefIdeal.τ Cert.MasksRefIdeal.sig) → Buf (Elt Ideal) ℓ) (g' : Dev Cert.MasksRefIdeal.nD → PrngReg), Pre_MasksIdeal m →
    (∀ c : Dev Cert.MasksIdeal.nD,
      m' ((c.tc : Thread Cert.MasksRefIdeal.nD Cert.MasksRefIdeal.τ).loc Cert.MasksRefIdeal.main_arg0) = m ((c.tc : Thread Cert.MasksIdeal.nD Cert.MasksIdeal.τ).loc Cert.MasksIdeal.main_arg0)
      ∧ m' ((c.tc : Thread Cert.MasksRefIdeal.nD Cert.MasksRefIdeal.τ).loc Cert.MasksRefIdeal.main_arg1) = m ((c.tc : Thread Cert.MasksIdeal.nD Cert.MasksIdeal.τ).loc Cert.MasksIdeal.main_arg1)) →
    ∃ (v0 : (c : Dev Cert.MasksIdeal.nD) → Buf (Elt Ideal) ((c.tc : Thread Cert.MasksIdeal.nD Cert.MasksIdeal.τ).loc Cert.MasksIdeal.main_v3)),
      θ_run (Cert.MasksIdeal.defs (F := Ideal)) (onTc (τ := Cert.MasksIdeal.τ) (Cert.MasksIdeal.main (F := Ideal))) ⟨m, fun _ => 0, g⟩ (fun r => ∀ c : Dev Cert.MasksIdeal.nD,
          r.2.mem ((c.tc : Thread Cert.MasksIdeal.nD Cert.MasksIdeal.τ).loc Cert.MasksIdeal.main_v3) = v0 c
          ∧ r.2.mem ((c.tc : Thread Cert.MasksIdeal.nD Cert.MasksIdeal.τ).loc Cert.MasksIdeal.main_arg0) = m ((c.tc : Thread Cert.MasksIdeal.nD Cert.MasksIdeal.τ).loc Cert.MasksIdeal.main_arg0)
          ∧ r.2.mem ((c.tc : Thread Cert.MasksIdeal.nD Cert.MasksIdeal.τ).loc Cert.MasksIdeal.main_arg1) = m ((c.tc : Thread Cert.MasksIdeal.nD Cert.MasksIdeal.τ).loc Cert.MasksIdeal.main_arg1))
      ∧ θ_run (Cert.MasksRefIdeal.defs (F := Ideal)) (onTc (τ := Cert.MasksRefIdeal.τ) (Cert.MasksRefIdeal.main (F := Ideal))) ⟨m', fun _ => 0, g'⟩ (fun r => ∀ c : Dev Cert.MasksRefIdeal.nD,
          r.2.mem ((c.tc : Thread Cert.MasksRefIdeal.nD Cert.MasksRefIdeal.τ).loc Cert.MasksRefIdeal.main_v64) = v0 c
          ∧ r.2.mem ((c.tc : Thread Cert.MasksRefIdeal.nD Cert.MasksRefIdeal.τ).loc Cert.MasksRefIdeal.main_arg0) = m' ((c.tc : Thread Cert.MasksRefIdeal.nD Cert.MasksRefIdeal.τ).loc Cert.MasksRefIdeal.main_arg0)
          ∧ r.2.mem ((c.tc : Thread Cert.MasksRefIdeal.nD Cert.MasksRefIdeal.τ).loc Cert.MasksRefIdeal.main_arg1) = m' ((c.tc : Thread Cert.MasksRefIdeal.nD Cert.MasksRefIdeal.τ).loc Cert.MasksRefIdeal.main_arg1))

def algebraic_SelectIdeal_SelectRefIdeal_pre_extents [hSelectIdeal : Cert.SelectIdeal.Facts] [hSelectRefIdeal : Cert.SelectRefIdeal.Facts] [hPre_extents : Cert.Pre_extents.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectRefIdeal.nD Cert.SelectRefIdeal.τ Cert.SelectRefIdeal.sig) → Buf (Elt Ideal) ℓ) (g' : Dev Cert.SelectRefIdeal.nD → PrngReg), Pre_SelectIdeal_extents m →
    (∀ c : Dev Cert.SelectIdeal.nD,
      m' ((c.tc : Thread Cert.SelectRefIdeal.nD Cert.SelectRefIdeal.τ).loc Cert.SelectRefIdeal.main_arg0) = m ((c.tc : Thread Cert.SelectIdeal.nD Cert.SelectIdeal.τ).loc Cert.SelectIdeal.main_arg0)) →
    ∃ (v0 : (c : Dev Cert.SelectIdeal.nD) → Buf (Elt Ideal) ((c.tc : Thread Cert.SelectIdeal.nD Cert.SelectIdeal.τ).loc Cert.SelectIdeal.main_v41)) (v1 : (c : Dev Cert.SelectIdeal.nD) → Buf (Elt Ideal) ((c.tc : Thread Cert.SelectIdeal.nD Cert.SelectIdeal.τ).loc Cert.SelectIdeal.main_v42)) (v2 : (c : Dev Cert.SelectIdeal.nD) → Buf (Elt Ideal) ((c.tc : Thread Cert.SelectIdeal.nD Cert.SelectIdeal.τ).loc Cert.SelectIdeal.main_v43)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v41) = v0 c
          ∧ r.2.mem ((c.tc : Thread Cert.SelectIdeal.nD Cert.SelectIdeal.τ).loc Cert.SelectIdeal.main_v42) = v1 c
          ∧ r.2.mem ((c.tc : Thread Cert.SelectIdeal.nD Cert.SelectIdeal.τ).loc Cert.SelectIdeal.main_v43) = v2 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0))
      ∧ θ_run (Cert.SelectRefIdeal.defs (F := Ideal)) (onTc (τ := Cert.SelectRefIdeal.τ) (Cert.SelectRefIdeal.main (F := Ideal))) ⟨m', fun _ => 0, g'⟩ (fun r => ∀ c : Dev Cert.SelectRefIdeal.nD,
          r.2.mem ((c.tc : Thread Cert.SelectRefIdeal.nD Cert.SelectRefIdeal.τ).loc Cert.SelectRefIdeal.main_v152) = v0 c
          ∧ r.2.mem ((c.tc : Thread Cert.SelectRefIdeal.nD Cert.SelectRefIdeal.τ).loc Cert.SelectRefIdeal.main_v143) = v1 c
          ∧ r.2.mem ((c.tc : Thread Cert.SelectRefIdeal.nD Cert.SelectRefIdeal.τ).loc Cert.SelectRefIdeal.main_v133) = v2 c
          ∧ r.2.mem ((c.tc : Thread Cert.SelectRefIdeal.nD Cert.SelectRefIdeal.τ).loc Cert.SelectRefIdeal.main_arg0) = m' ((c.tc : Thread Cert.SelectRefIdeal.nD Cert.SelectRefIdeal.τ).loc Cert.SelectRefIdeal.main_arg0))

def Claim : Prop :=
  ∃ (hMasks : Cert.Masks.Facts) (hMasksIdeal : Cert.MasksIdeal.Facts) (hMasksRefIdeal : Cert.MasksRefIdeal.Facts) (hSelectIdeal : Cert.SelectIdeal.Facts) (hSelectRefIdeal : Cert.SelectRefIdeal.Facts) (hPre_extents : Cert.Pre_extents.Facts),
    quiescent_Masks (hMasks := hMasks)
    ∧ quiescent_MasksIdeal (hMasksIdeal := hMasksIdeal)
    ∧ quiescent_MasksRefIdeal (hMasksRefIdeal := hMasksRefIdeal)
    ∧ quiescent_SelectIdeal (hSelectIdeal := hSelectIdeal)
    ∧ quiescent_SelectIdeal_pre_extents (hSelectIdeal := hSelectIdeal) (hPre_extents := hPre_extents)
    ∧ quiescent_SelectRefIdeal (hSelectRefIdeal := hSelectRefIdeal)
    ∧ quiescent_SelectRefIdeal_pre_extents (hSelectRefIdeal := hSelectRefIdeal) (hPre_extents := hPre_extents)
    ∧ preserves_Masks_MasksIdeal
    ∧ algebraic_MasksIdeal_MasksRefIdeal (hMasksIdeal := hMasksIdeal) (hMasksRefIdeal := hMasksRefIdeal)
    ∧ algebraic_SelectIdeal_SelectRefIdeal_pre_extents (hSelectIdeal := hSelectIdeal) (hSelectRefIdeal := hSelectRefIdeal) (hPre_extents := hPre_extents)
-- ==== Pre_extents.lean ====
abbrev S1x40x5376 : Shape := ⟨3, ![1, 40, 5376]⟩
abbrev S1x4x5376 : Shape := ⟨3, ![1, 4, 5376]⟩
abbrev S4x5376 : Shape := ⟨2, ![4, 5376]⟩
abbrev S_ : Shape := ⟨0, ![]⟩
abbrev S2x5376 : Shape := ⟨2, ![2, 5376]⟩

class Facts : Prop where
  slices_S1x40x5376_S1x4x5376_0_0_0 : S1x40x5376.Slices ![0, 0, 0] S1x4x5376
  shapeCasts_S1x4x5376_S4x5376 : S1x4x5376.ShapeCasts S4x5376
  bcast_S_S4x5376 : S_.BroadcastsInDim S4x5376 (![] : Fin 0 → Fin S4x5376.rank)
  reducesTo_S4x5376_S_d0_1 : S4x5376.ReducesTo [0, 1] S_
  h_S_ : 0 < S_.numel
  slices_S4x5376_S2x5376_2_0 : S4x5376.Slices ![2, 0] S2x5376
  bcast_S_S2x5376 : S_.BroadcastsInDim S2x5376 (![] : Fin 0 → Fin S2x5376.rank)
  reducesTo_S2x5376_S_d0_1 : S2x5376.ReducesTo [0, 1] S_

variable [Facts]

def fn {F : FTy → Type} [FloatOps F] (main_arg0 : FVec F S1x40x5376 .f32) : IVec S_ 1 :=
  let main_v0 : FVec F S1x4x5376 .f32 := (extractStridedSlice S1x4x5376 ![0, 0, 0] · slices_S1x40x5376_S1x4x5376_0_0_0) main_arg0
  let main_v1 : FVec F S4x5376 .f32 := shapeCast S4x5376 main_v0 shapeCasts_S1x4x5376_S4x5376
  let main_v2 : FVec F S4x5376 .f32 := Host.absf main_v1
  let main_cst : FVec F S_ .f32 := constant S_ .f32 0x7F800000#32
  let main_v3 : FVec F S4x5376 .f32 := broadcastInDim S4x5376 ![] bcast_S_S4x5376 main_cst
  let main_v4 : IVec S4x5376 1 := cmpf .olt main_v2 main_v3
  let main_c : IVec S_ 1 := constantI S_ 1 1#1
  let main_v5 : IVec S_ 1 := (fun x v => Host.reduce IntOp.andi x v reducesTo_S4x5376_S_d0_1 h_S_) main_v4 main_c
  let main_v6 : FVec F S2x5376 .f32 := (extractStridedSlice S2x5376 ![2, 0] · slices_S4x5376_S2x5376_2_0) main_v1
  let main_cst_0 : FVec F S_ .f32 := constant S_ .f32 0x00000000#32
  let main_v7 : FVec F S2x5376 .f32 := broadcastInDim S2x5376 ![] bcast_S_S2x5376 main_cst_0
  let main_v8 : IVec S2x5376 1 := cmpf .oge main_v6 main_v7
  let main_c_1 : IVec S_ 1 := constantI S_ 1 1#1
  let main_v9 : IVec S_ 1 := (fun x v => Host.reduce IntOp.andi x v reducesTo_S2x5376_S_d0_1 h_S_) main_v8 main_c_1
  let main_v10 : IVec S_ 1 := andi main_v5 main_v9
  main_v10
-- ==== Masks.lean ====
abbrev S1x128x128x32 : Shape := ⟨4, ![1, 128, 128, 32]⟩
abbrev S320x40 : Shape := ⟨2, ![320, 40]⟩
abbrev S128x128x32 : Shape := ⟨3, ![128, 128, 32]⟩
abbrev S16384x32 : Shape := ⟨2, ![16384, 32]⟩
abbrev S32x16384 : Shape := ⟨2, ![32, 16384]⟩
abbrev S1x16384 : Shape := ⟨2, ![1, 16384]⟩
abbrev S32x2048 : Shape := ⟨2, ![32, 2048]⟩
abbrev S1x2048 : Shape := ⟨2, ![1, 2048]⟩
abbrev S320x32 : Shape := ⟨2, ![320, 32]⟩
abbrev S320x2048 : Shape := ⟨2, ![320, 2048]⟩
abbrev S320x1 : Shape := ⟨2, ![320, 1]⟩
abbrev S2048 : Shape := ⟨1, ![2048]⟩

abbrev nBuf : Space → Nat
  | .hbm => 6
  | .vmem => 5
  | .smem => 0
  | _ => 0

abbrev bufTy : (tb : Table) → Fin (tcTables nBuf tb) → BufTy
  | .hbm, ⟨0, _⟩ => ⟨S1x128x128x32, .f32⟩
  | .hbm, ⟨1, _⟩ => ⟨S320x40, .f32⟩
  | .hbm, ⟨2, _⟩ => ⟨S128x128x32, .f32⟩
  | .hbm, ⟨3, _⟩ => ⟨S16384x32, .f32⟩
  | .hbm, ⟨4, _⟩ => ⟨S32x16384, .f32⟩
  | .hbm, ⟨5, _⟩ => ⟨S1x16384, .f32⟩
  | .local _ .vmem, ⟨0, _⟩ => ⟨S32x2048, .f32⟩
  | .local _ .vmem, ⟨1, _⟩ => ⟨S32x2048, .f32⟩
  | .local _ .vmem, ⟨2, _⟩ => ⟨S320x40, .f32⟩
  | .local _ .vmem, ⟨3, _⟩ => ⟨S1x2048, .f32⟩
  | .local _ .vmem, ⟨4, _⟩ => ⟨S1x2048, .f32⟩
  | _, _ => ⟨S1x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MasksRefIdeal.lean ====
abbrev S1x128x128x32 : Shape := ⟨4, ![1, 128, 128, 32]⟩
abbrev S320x40 : Shape := ⟨2, ![320, 40]⟩
abbrev S128x128x32 : Shape := ⟨3, ![128, 128, 32]⟩
abbrev S320x4 : Shape := ⟨2, ![320, 4]⟩
abbrev S320x1 : Shape := ⟨2, ![320, 1]⟩
abbrev S320 : Shape := ⟨1, ![320]⟩
abbrev S_ : Shape := ⟨0, ![]⟩
abbrev S320x32 : Shape := ⟨2, ![320, 32]⟩
abbrev S32x320 : Shape := ⟨2, ![32, 320]⟩
abbrev S128x128x320 : Shape := ⟨3, ![128, 128, 320]⟩
abbrev S1x1x320 : Shape := ⟨3, ![1, 1, 320]⟩
abbrev S128 : Shape := ⟨1, ![128]⟩
abbrev S128x1x1 : Shape := ⟨3, ![128, 1, 1]⟩
abbrev S1x128x1 : Shape := ⟨3, ![1, 128, 1]⟩
abbrev S128x1x320 : Shape := ⟨3, ![128, 1, 320]⟩
abbrev S1x128x320 : Shape := ⟨3, ![1, 128, 320]⟩
abbrev S128x128 : Shape := ⟨2, ![128, 128]⟩
abbrev S1x16384 : Shape := ⟨2, ![1, 16384]⟩

abbrev nBuf : Space → Nat
  | .hbm => 74
  | .vmem => 0
  | .smem => 0
  | _ => 0

abbrev bufTy : (tb : Table) → Fin (tcTables nBuf tb) → BufTy
  | .hbm, ⟨0, _⟩ => ⟨S1x128x128x32, .f32⟩
  | .hbm, ⟨1, _⟩ => ⟨S320x40, .f32⟩
  | .hbm, ⟨2, _⟩ => ⟨S128x128x32, .f32⟩
  | .hbm, ⟨3, _⟩ => ⟨S320x4, .f32⟩
  | .hbm, ⟨4, _⟩ => ⟨S320x1, .f32⟩
  | .hbm, ⟨5, _⟩ => ⟨S320, .f32⟩
  | .hbm, ⟨6, _⟩ => ⟨S_, .f32⟩
  | .hbm, ⟨7, _⟩ => ⟨S320, .f32⟩
  | .hbm, ⟨8, _⟩ => ⟨S320, .i1⟩
  | .hbm, ⟨9, _⟩ => ⟨S320, .f32⟩
  | .hbm, ⟨10, _⟩ => ⟨S320x32, .f32⟩
  | .hbm, ⟨11, _⟩ => ⟨S32x320, .f32⟩
  | .hbm, ⟨12, _⟩ => ⟨S128x128x320, .f32⟩
  | .hbm, ⟨13, _⟩ => ⟨S128x128x320, .f32⟩
  | .hbm, ⟨14, _⟩ => ⟨S128x128x320, .f32⟩
  | .hbm, ⟨15, _⟩ => ⟨S_, .f32⟩
  | .hbm, ⟨16, _⟩ => ⟨S128x128x320, .f32⟩
  | .hbm, ⟨17, _⟩ => ⟨S128x128x320, .f32⟩
  | .hbm, ⟨18, _⟩ => ⟨S_, .f32⟩
  | .hbm, ⟨19, _⟩ => ⟨S128x128x320, .f32⟩
  | .hbm, ⟨20, _⟩ => ⟨S128x128x320, .f32⟩
  | .hbm, ⟨21, _⟩ => ⟨S_, .f32⟩
  | .hbm, ⟨22, _⟩ => ⟨S128x128x320, .f32⟩
  | .hbm, ⟨23, _⟩ => ⟨S128x128x320, .i1⟩
  | .hbm, ⟨24, _⟩ => ⟨S_, .f32⟩
  | .hbm, ⟨25, _⟩ => ⟨S128x128x320, .f32⟩
  | .hbm, ⟨26, _⟩ => ⟨S128x128x320, .f32⟩
  | .hbm, ⟨27, _⟩ => ⟨S1x1x320, .f32⟩
  | .hbm, ⟨28, _⟩ => ⟨S128x128x320, .f32⟩
  | .hbm, ⟨29, _⟩ => ⟨S128x128x320, .f32⟩
  | .hbm, ⟨30, _⟩ => ⟨S_, .f32⟩
  | .hbm, ⟨31, _⟩ => ⟨S320x4, .f32⟩
  | .hbm, ⟨32, _⟩ => ⟨S320x4, .f32⟩
  | .hbm, ⟨33, _⟩ => ⟨S320x1, .f32⟩
  | .hbm, ⟨34, _⟩ => ⟨S320, .f32⟩
  | .hbm, ⟨35, _⟩ => ⟨S320x1, .f32⟩
  | .hbm, ⟨36, _⟩ => ⟨S320, .f32⟩
  | .hbm, ⟨37, _⟩ => ⟨S320x1, .f32⟩
  | .hbm, ⟨38, _⟩ => ⟨S320, .f32⟩
  | .hbm, ⟨39, _⟩ => ⟨S320x1, .f32⟩
  | .hbm, ⟨40, _⟩ => ⟨S320, .f32⟩
  | .hbm, ⟨41, _⟩ => ⟨S128, .i32⟩
  | .hbm, ⟨42, _⟩ => ⟨S128, .f32⟩
  | .hbm, ⟨43, _⟩ => ⟨S128x1x1, .f32⟩
  | .hbm, ⟨44, _⟩ => ⟨S128, .i32⟩
  | .hbm, ⟨45, _⟩ => ⟨S128, .f32⟩
  | .hbm, ⟨46, _⟩ => ⟨S1x128x1, .f32⟩
  | .hbm, ⟨47, _⟩ => ⟨S1x1x320, .f32⟩
  | .hbm, ⟨48, _⟩ => ⟨S128x1x320, .f32⟩
  | .hbm, ⟨49, _⟩ => ⟨S128x1x320, .f32⟩
  | .hbm, ⟨50, _⟩ => ⟨S128x1x320, .i1⟩
  | .hbm, ⟨51, _⟩ => ⟨S1x1x320, .f32⟩
  | .hbm, ⟨52, _⟩ => ⟨S128x1x320, .f32⟩
  | .hbm, ⟨53, _⟩ => ⟨S128x1x320, .f32⟩
  | .hbm, ⟨54, _⟩ => ⟨S128x1x320, .i1⟩
  | .hbm, ⟨55, _⟩ => ⟨S128x1x320, .i1⟩
  | .hbm, ⟨56, _⟩ => ⟨S128x1x320, .f32⟩
  | .hbm, ⟨57, _⟩ => ⟨S1x1x320, .f32⟩
  | .hbm, ⟨58, _⟩ => ⟨S1x128x320, .f32⟩
  | .hbm, ⟨59, _⟩ => ⟨S1x128x320, .f32⟩
  | .hbm, ⟨60, _⟩ => ⟨S1x128x320, .i1⟩
  | .hbm, ⟨61, _⟩ => ⟨S1x1x320, .f32⟩
  | .hbm, ⟨62, _⟩ => ⟨S1x128x320, .f32⟩
  | .hbm, ⟨63, _⟩ => ⟨S1x128x320, .f32⟩
  | .hbm, ⟨64, _⟩ => ⟨S1x128x320, .i1⟩
  | .hbm, ⟨65, _⟩ => ⟨S1x128x320, .i1⟩
  | .hbm, ⟨66, _⟩ => ⟨S1x128x320, .f32⟩
  | .hbm, ⟨67, _⟩ => ⟨S128x128x320, .f32⟩
  | .hbm, ⟨68, _⟩ => ⟨S128x128x320, .f32⟩
  | .hbm, ⟨69, _⟩ => ⟨S128x128x320, .f32⟩
  | .hbm, ⟨70, _⟩ => ⟨S128x128x320, .f32⟩
  | .hbm, ⟨71, _⟩ => ⟨S_, .f32⟩
  | .hbm, ⟨72, _⟩ => ⟨S128x128, .f32⟩
  | .hbm, ⟨73, _⟩ => ⟨S1x16384, .f32⟩
  | _, _ => ⟨S1x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_5 : Ref sig .tc := ⟨.hbm, 71, rfl⟩
abbrev main_v63 : Ref sig .tc := ⟨.hbm, 72, rfl⟩
abbrev main_v64 : Ref sig .tc := ⟨.hbm, 73, rfl⟩

abbrev nD : Nat := 1
abbrev τ : Topo := Topo.v7x

variable {F : FTy → Type} [FloatOps F]
-- ==== SelectIdeal.lean ====
abbrev S1x40x5376 : Shape := ⟨3, ![1, 40, 5376]⟩
abbrev S4 : Shape := ⟨1, ![4]⟩
abbrev S40x5376 : Shape := ⟨2, ![40, 5376]⟩
abbrev S4x5376 : Shape := ⟨2, ![4, 5376]⟩
abbrev S32x5376 : Shape := ⟨2, ![32, 5376]⟩
abbrev S_ : Shape := ⟨0, ![]⟩
abbrev S5376 : Shape := ⟨1, ![5376]⟩
abbrev S5376x4 : Shape := ⟨2, ![5376, 4]⟩
abbrev S5376x2 : Shape := ⟨2, ![5376, 2]⟩
abbrev S4x1 : Shape := ⟨2, ![4, 1]⟩
abbrev S5376x1 : Shape := ⟨2, ![5376, 1]⟩
abbrev S5376x32 : Shape := ⟨2, ![5376, 32]⟩
abbrev S5376x40 : Shape := ⟨2, ![5376, 40]⟩
abbrev S320x40 : Shape := ⟨2, ![320, 40]⟩
abbrev S5376x8 : Shape := ⟨2, ![5376, 8]⟩
abbrev S8x5376 : Shape := ⟨2, ![8, 5376]⟩
abbrev S1x5376 : Shape := ⟨2, ![1, 5376]⟩
abbrev S1x256 : Shape := ⟨2, ![1, 256]⟩
abbrev S256x256 : Shape := ⟨2, ![256, 256]⟩
abbrev S256x4 : Shape := ⟨2, ![256, 4]⟩
abbrev S256x1 : Shape := ⟨2, ![256, 1]⟩
abbrev S1x1x256 : Shape := ⟨3, ![1, 1, 256]⟩
abbrev S1 : Shape := ⟨1, ![1]⟩
abbrev S1x1x1 : Shape := ⟨3, ![1, 1, 1]⟩
abbrev S128x128 : Shape := ⟨2, ![128, 128]⟩
abbrev S320x128 : Shape := ⟨2, ![320, 128]⟩
abbrev S1x128 : Shape := ⟨2, ![1, 128]⟩
abbrev S1x1 : Shape := ⟨2, ![1, 1]⟩
abbrev S1x42 : Shape := ⟨2, ![1, 42]⟩
abbrev S42x42 : Shape := ⟨2, ![42, 42]⟩
abbrev S320x5376 : Shape := ⟨2, ![320, 5376]⟩
abbrev S300x1 : Shape := ⟨2, ![300, 1]⟩
abbrev S300x4 : Shape := ⟨2, ![300, 4]⟩

abbrev nBuf : Space → Nat
  | .hbm => 60
  | .vmem => 2
  | .smem => 0
  | _ => 0

abbrev bufTy : (tb : Table) → Fin (tcTables nBuf tb) → BufTy
  | .hbm, ⟨0, _⟩ => ⟨S1x40x5376, .f32⟩
  | .hbm, ⟨1, _⟩ => ⟨S4, .i32⟩
  | .hbm, ⟨2, _⟩ => ⟨S40x5376, .f32⟩
  | .hbm, ⟨3, _⟩ => ⟨S4x5376, .f32⟩
  | .hbm, ⟨4, _⟩ => ⟨S4x5376, .f32⟩
  | .hbm, ⟨5, _⟩ => ⟨S32x5376, .f32⟩
  | .hbm, ⟨6, _⟩ => ⟨S_, .f32⟩
  | .hbm, ⟨7, _⟩ => ⟨S5376, .f32⟩
  | .hbm, ⟨8, _⟩ => ⟨S4x5376, .i32⟩
  | .hbm, ⟨9, _⟩ => ⟨S_, .f32⟩
  | .hbm, ⟨10, _⟩ => ⟨S_, .i32⟩
  | .hbm, ⟨11, _⟩ => ⟨S5376, .f32⟩
  | .hbm, ⟨12, _⟩ => ⟨S5376, .i32⟩
  | .hbm, ⟨13, _⟩ => ⟨S5376x4, .f32⟩
  | .hbm, ⟨14, _⟩ => ⟨S5376x2, .f32⟩
  | .hbm, ⟨15, _⟩ => ⟨S5376x2, .f32⟩
  | .hbm, ⟨16, _⟩ => ⟨S_, .f32⟩
  | .hbm, ⟨17, _⟩ => ⟨S5376x2, .f32⟩
  | .hbm, ⟨18, _⟩ => ⟨S5376x2, .f32⟩
  | .hbm, ⟨19, _⟩ => ⟨S5376x2, .f32⟩
  | .hbm, ⟨20, _⟩ => ⟨S5376x2, .f32⟩
  | .hbm, ⟨21, _⟩ => ⟨S5376x2, .f32⟩
  | .hbm, ⟨22, _⟩ => ⟨S_, .f32⟩
  | .hbm, ⟨23, _⟩ => ⟨S5376x2, .f32⟩
  | .hbm, ⟨24, _⟩ => ⟨S5376x2, .f32⟩
  | .hbm, ⟨25, _⟩ => ⟨S5376x2, .f32⟩
  | .hbm, ⟨26, _⟩ => ⟨S5376x4, .f32⟩
  | .hbm, ⟨27, _⟩ => ⟨S_, .i32⟩
  | .hbm, ⟨28, _⟩ => ⟨S4, .i32⟩
  | .hbm, ⟨29, _⟩ => ⟨S4, .i1⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S4, .i32⟩
  | .hbm, ⟨34, _⟩ => ⟨S4x1, .i32⟩
  | .hbm, ⟨35, _⟩ => ⟨S5376x4, .f32⟩
  | .hbm, ⟨36, _⟩ => ⟨S5376, .f32⟩
  | .hbm, ⟨37, _⟩ => ⟨S5376, .i32⟩
  | .hbm, ⟨38, _⟩ => ⟨S5376, .f32⟩
  | .hbm, ⟨39, _⟩ => ⟨S5376, .i32⟩
  | .hbm, ⟨40, _⟩ => ⟨S5376x1, .f32⟩
  | .hbm, ⟨41, _⟩ => ⟨S5376, .f32⟩
  | .hbm, ⟨42, _⟩ => ⟨S5376x1, .f32⟩
  | .hbm, ⟨43, _⟩ => ⟨S_, .f32⟩
  | .hbm, ⟨44, _⟩ => ⟨S5376x2, .f32⟩
  | .hbm, ⟨45, _⟩ => ⟨S5376x32, .f32⟩
  | .hbm, ⟨46, _⟩ => ⟨S5376x40, .f32⟩
  | .hbm, ⟨47, _⟩ => ⟨S_, .i32⟩
  | .hbm, ⟨48, _⟩ => ⟨S5376, .i32⟩
  | .hbm, ⟨49, _⟩ => ⟨S5376, .i1⟩
  | .hbm, ⟨50, _⟩ => ⟨S_, .i32⟩
  | .hbm, ⟨51, _⟩ => ⟨S5376, .i32⟩
  | .hbm, ⟨52, _⟩ => ⟨S5376, .i32⟩
  | .hbm, ⟨53, _⟩ => ⟨S5376, .i32⟩
  | .hbm, ⟨54, _⟩ => ⟨S5376x1, .i32⟩
  | .hbm, ⟨55, _⟩ => ⟨S5376x40, .f32⟩
  | .hbm, ⟨56, _⟩ => ⟨S320x40, .f32⟩
  | .hbm, ⟨57, _⟩ => ⟨S300x1, .f32⟩
  | .hbm, ⟨58, _⟩ => ⟨S300x1, .f32⟩
  | .hbm, ⟨59, _⟩ => ⟨S300x4, .f32⟩
  | .local _ .vmem, ⟨0, _⟩ => ⟨S5376x40, .f32⟩
  | .local _ .vmem, ⟨1, _⟩ => ⟨S320x40, .f32⟩
  | _, _ => ⟨S1x40x5376, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_v0 : Ref sig .tc := ⟨.hbm, 37, rfl⟩
abbrev main_call1_v1_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F] [Named F]

def κ : String → Option EReal := fun
  | "four" => some ((25165825 / 6291456 : ℝ) : EReal)
  | _ => none

abbrev grid0 : Pipeline.Grid := .none

abbrev stage0_0 : Fin 1 → Memref sig .tc .vmem S5376x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SelectRefIdeal.lean ====
abbrev S1x40x5376 : Shape := ⟨3, ![1, 40, 5376]⟩
abbrev S4 : Shape := ⟨1, ![4]⟩
abbrev S40x5376 : Shape := ⟨2, ![40, 5376]⟩
abbrev S4x5376 : Shape := ⟨2, ![4, 5376]⟩
abbrev S_ : Shape := ⟨0, ![]⟩
abbrev S5376 : Shape := ⟨1, ![5376]⟩
abbrev S5376x4 : Shape := ⟨2, ![5376, 4]⟩
abbrev S5376x2 : Shape := ⟨2, ![5376, 2]⟩
abbrev S4x1 : Shape := ⟨2, ![4, 1]⟩
abbrev S5376x1 : Shape := ⟨2, ![5376, 1]⟩
abbrev S1x5376 : Shape := ⟨2, ![1, 5376]⟩
abbrev S5376x5376 : Shape := ⟨2, ![5376, 5376]⟩
abbrev S1 : Shape := ⟨1, ![1]⟩
abbrev S300 : Shape := ⟨1, ![300]⟩
abbrev S300x1 : Shape := ⟨2, ![300, 1]⟩
abbrev S300x4 : Shape := ⟨2, ![300, 4]⟩

abbrev nBuf : Space → Nat
  | .hbm => 286
  | .vmem => 0
  | .smem => 0
  | _ => 0

abbrev hbmTy0_0 (i : Nat) : BufTy := match i % 128 with
  | 0 => ⟨S1x40x5376, .f32⟩
  | 1 => ⟨S4, .i32⟩
  | 2 => ⟨S40x5376, .f32⟩
  | 3 => ⟨S4x5376, .f32⟩
  | 4 => ⟨S4x5376, .f32⟩
  | 5 => ⟨S4x5376, .i32⟩
  | 6 => ⟨S_, .f32⟩
  | 7 => ⟨S_, .i32⟩
  | 8 => ⟨S5376, .f32⟩
  | 9 => ⟨S5376, .i32⟩
  | 10 => ⟨S_, .f32⟩
  | 11 => ⟨S5376, .f32⟩
  | 12 => ⟨S5376x4, .f32⟩
  | 13 => ⟨S5376x2, .f32⟩
  | 14 => ⟨S5376x2, .f32⟩
  | 15 => ⟨S_, .f32⟩
  | 16 => ⟨S5376x2, .f32⟩
  | 17 => ⟨S5376x2, .f32⟩
  | 18 => ⟨S5376x2, .f32⟩
  | 19 => ⟨S5376x2, .f32⟩
  | 20 => ⟨S5376x2, .f32⟩
  | 21 => ⟨S_, .f32⟩
  | 22 => ⟨S5376x2, .f32⟩
  | 23 => ⟨S5376x2, .f32⟩
  | 24 => ⟨S5376x2, .f32⟩
  | 25 => ⟨S5376x4, .f32⟩
  | 26 => ⟨S_, .i32⟩
  | 27 => ⟨S4, .i32⟩
  | 28 => ⟨S4, .i1⟩
  | 29 => ⟨S_, .i32⟩
  | 30 => ⟨S4, .i32⟩
  | 31 => ⟨S4, .i32⟩
  | 32 => ⟨S4, .i32⟩
  | 33 => ⟨S4x1, .i32⟩
  | 34 => ⟨S5376x4, .f32⟩
  | 35 => ⟨S5376, .f32⟩
  | 36 => ⟨S5376, .i32⟩
  | 37 => ⟨S5376, .f32⟩
  | 38 => ⟨S5376, .i32⟩
  | 39 => ⟨S_, .i32⟩
  | 40 => ⟨S5376, .i32⟩
  | 41 => ⟨S5376, .i1⟩
  | 42 => ⟨S_, .i32⟩
  | 43 => ⟨S5376, .i32⟩
  | 44 => ⟨S5376, .i32⟩
  | 45 => ⟨S5376, .i32⟩
  | 46 => ⟨S5376x1, .i32⟩
  | 47 => ⟨S5376x4, .f32⟩
  | 48 => ⟨S_, .i32⟩
  | 49 => ⟨S5376, .i32⟩
  | 50 => ⟨S5376, .i1⟩
  | 51 => ⟨S_, .i32⟩
  | 52 => ⟨S5376, .i32⟩
  | 53 => ⟨S5376, .i32⟩
  | 54 => ⟨S5376, .i32⟩
  | 55 => ⟨S5376x1, .i32⟩
  | 56 => ⟨S5376, .f32⟩
  | 57 => ⟨S5376x1, .f32⟩
  | 58 => ⟨S5376, .f32⟩
  | 59 => ⟨S5376x1, .f32⟩
  | 60 => ⟨S5376, .f32⟩
  | 61 => ⟨S5376x1, .f32⟩
  | 62 => ⟨S5376, .f32⟩
  | 63 => ⟨S5376x1, .f32⟩
  | 64 => ⟨S5376, .f32⟩
  | 65 => ⟨S5376, .f32⟩
  | 66 => ⟨S5376, .f32⟩
  | 67 => ⟨S5376, .f32⟩
  | 68 => ⟨S5376x1, .f32⟩
  | 69 => ⟨S1x5376, .f32⟩
  | 70 => ⟨S5376x5376, .f32⟩
  | 71 => ⟨S5376x5376, .f32⟩
  | 72 => ⟨S5376x5376, .f32⟩
  | 73 => ⟨S5376x1, .f32⟩
  | 74 => ⟨S1x5376, .f32⟩
  | 75 => ⟨S5376x5376, .f32⟩
  | 76 => ⟨S5376x5376, .f32⟩
  | 77 => ⟨S5376x5376, .f32⟩
  | 78 => ⟨S5376x1, .f32⟩
  | 79 => ⟨S1x5376, .f32⟩
  | 80 => ⟨S5376x5376, .f32⟩
  | 81 => ⟨S5376x5376, .f32⟩
  | 82 => ⟨S5376x5376, .f32⟩
  | 83 => ⟨S5376x1, .f32⟩
  | 84 => ⟨S1x5376, .f32⟩
  | 85 => ⟨S5376x5376, .f32⟩
  | 86 => ⟨S5376x5376, .f32⟩
  | 87 => ⟨S5376x5376, .f32⟩
  | 88 => ⟨S5376x5376, .f32⟩
  | 89 => ⟨S_, .f32⟩
  | 90 => ⟨S5376x5376, .f32⟩
  | 91 => ⟨S5376x5376, .f32⟩
  | 92 => ⟨S5376x5376, .f32⟩
  | 93 => ⟨S_, .f32⟩
  | 94 => ⟨S5376x5376, .f32⟩
  | 95 => ⟨S5376x5376, .f32⟩
  | 96 => ⟨S5376x5376, .f32⟩
  | 97 => ⟨S5376x1, .f32⟩
  | 98 => ⟨S1x5376, .f32⟩
  | 99 => ⟨S5376x5376, .f32⟩
  | 100 => ⟨S5376x5376, .f32⟩
  | 101 => ⟨S5376x5376, .f32⟩
  | 102 => ⟨S5376x5376, .f32⟩
  | 103 => ⟨S_, .f32⟩
  | 104 => ⟨S5376x5376, .f32⟩
  | 105 => ⟨S5376x5376, .f32⟩
  | 106 => ⟨S5376x5376, .f32⟩
  | 107 => ⟨S_, .f32⟩
  | 108 => ⟨S5376, .f32⟩
  | 109 => ⟨S5376, .i1⟩
  | 110 => ⟨S5376, .i32⟩
  | 111 => ⟨S_, .i32⟩
  | 112 => ⟨S_, .i32⟩
  | 113 => ⟨S5376x5376, .f32⟩
  | 114 => ⟨S5376, .i32⟩
  | 115 => ⟨S_, .i32⟩
  | 116 => ⟨S_, .i32⟩
  | 117 => ⟨S5376, .i1⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S1x40x5376, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S1x5376, .f32⟩
  | 9 => ⟨S5376, .f32⟩
  | 10 => ⟨S_, .f32⟩
  | 11 => ⟨S5376, .f32⟩
  | 12 => ⟨S5376, .i1⟩
  | 13 => ⟨S_, .i32⟩
  | 14 => ⟨S5376, .i32⟩
  | 15 => ⟨S5376, .i1⟩
  | 16 => ⟨S5376, .i1⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S1, .i1⟩
  | 24 => ⟨S_, .i1⟩
  | 25 => ⟨S5376, .i1⟩
  | 26 => ⟨S5376, .i1⟩
  | 27 => ⟨S5376, .i1⟩
  | 28 => ⟨S_, .i32⟩
  | 29 => ⟨S_, .i32⟩
  | 30 => ⟨S5376, .i32⟩
  | 31 => ⟨S_, .i32⟩
  | 32 => ⟨S_, .i32⟩
  | 33 => ⟨S5376, .i32⟩
  | 34 => ⟨S_, .i32⟩
  | 35 => ⟨S5376, .i32⟩
  | 36 => ⟨S_, .i32⟩
  | 37 => ⟨S5376, .i32⟩
  | 38 => ⟨S5376, .i1⟩
  | 39 => ⟨S_, .i32⟩
  | 40 => ⟨S5376, .i32⟩
  | 41 => ⟨S5376, .i32⟩
  | 42 => ⟨S5376, .i32⟩
  | 43 => ⟨S5376x1, .i32⟩
  | 44 => ⟨S_, .i32⟩
  | 45 => ⟨S5376, .i32⟩
  | 46 => ⟨S5376, .i32⟩
  | 47 => ⟨S_, .i32⟩
  | 48 => ⟨S_, .i32⟩
  | 49 => ⟨S5376, .i32⟩
  | 50 => ⟨S_, .i32⟩
  | 51 => ⟨S_, .i32⟩
  | 52 => ⟨S5376, .i32⟩
  | 53 => ⟨S5376, .i32⟩
  | 54 => ⟨S5376, .i32⟩
  | 55 => ⟨S_, .i32⟩
  | 56 => ⟨S5376, .i32⟩
  | 57 => ⟨S5376, .i1⟩
  | 58 => ⟨S5376, .i32⟩
  | 59 => ⟨S5376, .i32⟩
  | 60 => ⟨S_, .i32⟩
  | 61 => ⟨S5376, .i32⟩
  | 62 => ⟨S5376, .i1⟩
  | 63 => ⟨S5376, .i1⟩
  | 64 => ⟨S_, .i32⟩
  | 65 => ⟨S5376, .i32⟩
  | 66 => ⟨S5376, .i32⟩
  | 67 => ⟨S5376, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S5376, .i32⟩
  | 75 => ⟨S5376, .i32⟩
  | 76 => ⟨S_, .i32⟩
  | 77 => ⟨S5376, .i32⟩
  | 78 => ⟨S5376, .i1⟩
  | 79 => ⟨S_, .i32⟩
  | 80 => ⟨S5376, .i32⟩
  | 81 => ⟨S5376, .i1⟩
  | 82 => ⟨S_, .i32⟩
  | 83 => ⟨S_, .i1⟩
  | 84 => ⟨S5376, .i1⟩
  | 85 => ⟨S5376, .i1⟩
  | 86 => ⟨S5376, .i1⟩
  | 87 => ⟨S5376, .i32⟩
  | 88 => ⟨S5376, .i32⟩
  | 89 => ⟨S5376, .i32⟩
  | 90 => ⟨S5376, .i32⟩
  | 91 => ⟨S_, .i32⟩
  | 92 => ⟨S_, .i32⟩
  | 93 => ⟨S1, .i32⟩
  | 94 => ⟨S5376, .i32⟩
  | 95 => ⟨S5376, .i32⟩
  | 96 => ⟨S5376, .i1⟩
  | 97 => ⟨S_, .i32⟩
  | 98 => ⟨S1, .i32⟩
  | 99 => ⟨S5376, .i32⟩
  | 100 => ⟨S5376, .i32⟩
  | 101 => ⟨S300, .i32⟩
  | 102 => ⟨S_, .i32⟩
  | 103 => ⟨S300, .i32⟩
  | 104 => ⟨S300, .i1⟩
  | 105 => ⟨S_, .i32⟩
  | 106 => ⟨S_, .i32⟩
  | 107 => ⟨S_, .i32⟩
  | 108 => ⟨S300, .i32⟩
  | 109 => ⟨S300, .i32⟩
  | 110 => ⟨S_, .i32⟩
  | 111 => ⟨S300, .i32⟩
  | 112 => ⟨S300, .i32⟩
  | 113 => ⟨S_, .i32⟩
  | 114 => ⟨S300, .i32⟩
  | 115 => ⟨S300, .i1⟩
  | 116 => ⟨S_, .i32⟩
  | 117 => ⟨S300, .i32⟩
  | 118 => ⟨S300, .i32⟩
  | 119 => ⟨S300, .i32⟩
  | 120 => ⟨S300x1, .i32⟩
  | 121 => ⟨S300, .i32⟩
  | 122 => ⟨S300, .f32⟩
  | 123 => ⟨S_, .i32⟩
  | 124 => ⟨S300, .i32⟩
  | 125 => ⟨S300, .i1⟩
  | 126 => ⟨S_, .i32⟩
  | 127 => ⟨S300, .i32⟩
  | _ => ⟨S1x40x5376, .f32⟩

abbrev hbmTy0_2 (i : Nat) : BufTy := match i % 128 with
  | 0 => ⟨S300, .i32⟩
  | 1 => ⟨S300, .i32⟩
  | 2 => ⟨S300x1, .i32⟩
  | 3 => ⟨S300x4, .f32⟩
  | 4 => ⟨S300x1, .f32⟩
  | 5 => ⟨S300x4, .f32⟩
  | 6 => ⟨S300x4, .f32⟩
  | 7 => ⟨S_, .i32⟩
  | 8 => ⟨S300, .i32⟩
  | 9 => ⟨S300, .i1⟩
  | 10 => ⟨S_, .i32⟩
  | 11 => ⟨S300, .i32⟩
  | 12 => ⟨S300, .i32⟩
  | 13 => ⟨S300, .i32⟩
  | 14 => ⟨S300x1, .i32⟩
  | 15 => ⟨S300, .i32⟩
  | 16 => ⟨S300, .f32⟩
  | 17 => ⟨S300, .f32⟩
  | 18 => ⟨S300x1, .f32⟩
  | 19 => ⟨S_, .i32⟩
  | 20 => ⟨S300, .i32⟩
  | 21 => ⟨S300, .i1⟩
  | 22 => ⟨S_, .i32⟩
  | 23 => ⟨S300, .i32⟩
  | 24 => ⟨S300, .i32⟩
  | 25 => ⟨S300, .i32⟩
  | 26 => ⟨S300x1, .i32⟩
  | 27 => ⟨S300, .f32⟩
  | 28 => ⟨S300, .f32⟩
  | 29 => ⟨S300x1, .f32⟩
  | _ => ⟨S1x40x5376, .f32⟩

abbrev hbmTy (i : Nat) : BufTy := match i / 128 with
  | 0 => hbmTy0_0 i
  | 1 => hbmTy0_1 i
  | 2 => hbmTy0_2 i
  | _ => ⟨S1x40x5376, .f32⟩

abbrev bufTy : (tb : Table) → Fin (tcTables nBuf tb) → BufTy
  | .hbm, ⟨i, _⟩ => hbmTy i
  | _, _ => ⟨S1x40x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_cst : Ref sig .tc := ⟨.hbm, 6, rfl⟩
abbrev main_call0_c : Ref sig .tc := ⟨.hbm, 7, rfl⟩
abbrev main_call0_v1_0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_v0 : Ref sig .tc := ⟨.hbm, 36, rfl⟩
abbrev main_call1_v1_0 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_11 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_c_12 : Ref sig .tc := ⟨.hbm, 111, rfl⟩
abbrev main_c_13 : Ref sig .tc := ⟨.hbm, 112, rfl⟩
abbrev main_v90_0 : Ref sig .tc := ⟨.hbm, 113, rfl⟩
abbrev main_v90_1 : Ref sig .tc := ⟨.hbm, 114, rfl⟩
abbrev main_v90_2 : Ref sig .tc := ⟨.hbm, 115, rfl⟩
abbrev main_v90_3 : Ref sig .tc := ⟨.hbm, 116, rfl⟩
abbrev main_v90_4 : Ref sig .tc := ⟨.hbm, 117, rfl⟩
abbrev main_while0c_c_37 : Ref sig .tc := ⟨.hbm, 118, rfl⟩
abbrev main_while0c_v153 : Ref sig .tc := ⟨.hbm, 119, rfl⟩
abbrev main_while0b_c_37 : Ref sig .tc := ⟨.hbm, 120, rfl⟩
abbrev main_while0b_v153 : Ref sig .tc := ⟨.hbm, 121, rfl⟩
abbrev main_while0b_v154 : Ref sig .tc := ⟨.hbm, 122, rfl⟩
abbrev main_while0b_c_38 : Ref sig .tc := ⟨.hbm, 123, rfl⟩
abbrev main_while0b_v155 : Ref sig .tc := ⟨.hbm, 124, rfl⟩
abbrev main_while0b_c_39 : Ref sig .tc := ⟨.hbm, 125, rfl⟩
abbrev main_while0b_v156 : Ref sig .tc := ⟨.hbm, 126, rfl⟩
abbrev main_while0b_v157 : Ref sig .tc := ⟨.hbm, 127, rfl⟩
abbrev main_while0b_c_40 : Ref sig .tc := ⟨.hbm, 128, rfl⟩
abbrev main_while0b_c_41 : Ref sig .tc := ⟨.hbm, 129, rfl⟩
abbrev main_while0b_v158 : Ref sig .tc := ⟨.hbm, 130, rfl⟩
abbrev main_while0b_c_42 : Ref sig .tc := ⟨.hbm, 131, rfl⟩
abbrev main_while0b_c_43 : Ref sig .tc := ⟨.hbm, 132, rfl⟩
abbrev main_while0b_v159 : Ref sig .tc := ⟨.hbm, 133, rfl⟩
abbrev main_while0b_c_44 : Ref sig .tc := ⟨.hbm, 134, rfl⟩
abbrev main_while0b_v160 : Ref sig .tc := ⟨.hbm, 135, rfl⟩
abbrev main_while0b_v161 : Ref sig .tc := ⟨.hbm, 136, rfl⟩
abbrev main_while0b_v162 : Ref sig .tc := ⟨.hbm, 137, rfl⟩
abbrev main_while0b_cst_45 : Ref sig .tc := ⟨.hbm, 138, rfl⟩
abbrev main_while0b_v163 : Ref sig .tc := ⟨.hbm, 139, rfl⟩
abbrev main_while0b_v164 : Ref sig .tc := ⟨.hbm, 140, rfl⟩
abbrev main_while0b_v165 : Ref sig .tc := ⟨.hbm, 141, rfl⟩
abbrev main_while0b_v166 : Ref sig .tc := ⟨.hbm, 142, rfl⟩
abbrev main_while0b_v167 : Ref sig .tc := ⟨.hbm, 143, rfl⟩
abbrev main_while0b_v168 : Ref sig .tc := ⟨.hbm, 144, rfl⟩
abbrev main_while0b_c_46 : Ref sig .tc := ⟨.hbm, 145, rfl⟩
abbrev main_while0b_v169 : Ref sig .tc := ⟨.hbm, 146, rfl⟩
abbrev main_while0b_v170 : Ref sig .tc := ⟨.hbm, 147, rfl⟩
abbrev main_while0b_c_47 : Ref sig .tc := ⟨.hbm, 148, rfl⟩
abbrev main_while0b_v171 : Ref sig .tc := ⟨.hbm, 149, rfl⟩
abbrev main_while0b_v172 : Ref sig .tc := ⟨.hbm, 150, rfl⟩
abbrev main_while0b_v173 : Ref sig .tc := ⟨.hbm, 151, rfl⟩
abbrev main_while0b_v174 : Ref sig .tc := ⟨.hbm, 152, rfl⟩
abbrev main_while0b_v175 : Ref sig .tc := ⟨.hbm, 153, rfl⟩
abbrev main_while0b_v176 : Ref sig .tc := ⟨.hbm, 154, rfl⟩
abbrev main_while0b_v177 : Ref sig .tc := ⟨.hbm, 155, rfl⟩
abbrev main_while0b_c_48 : Ref sig .tc := ⟨.hbm, 156, rfl⟩
abbrev main_while0b_v178 : Ref sig .tc := ⟨.hbm, 157, rfl⟩
abbrev main_call3_v0 : Ref sig .tc := ⟨.hbm, 158, rfl⟩
abbrev main_call3_call0_c : Ref sig .tc := ⟨.hbm, 159, rfl⟩
abbrev main_call3_call0_v0 : Ref sig .tc := ⟨.hbm, 160, rfl⟩
abbrev main_v91 : Ref sig .tc := ⟨.hbm, 161, rfl⟩
abbrev main_c_14 : Ref sig .tc := ⟨.hbm, 162, rfl⟩
abbrev main_v92 : Ref sig .tc := ⟨.hbm, 163, rfl⟩
abbrev main_c_15 : Ref sig .tc := ⟨.hbm, 164, rfl⟩
abbrev main_v93 : Ref sig .tc := ⟨.hbm, 165, rfl⟩
abbrev main_v94 : Ref sig .tc := ⟨.hbm, 166, rfl⟩
abbrev main_c_16 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_c_17 : Ref sig .tc := ⟨.hbm, 172, rfl⟩
abbrev main_v99 : Ref sig .tc := ⟨.hbm, 173, rfl⟩
abbrev main_v100 : Ref sig .tc := ⟨.hbm, 174, rfl⟩
abbrev main_call4_call0_c : Ref sig .tc := ⟨.hbm, 175, rfl⟩
abbrev main_call4_call0_v0 : Ref sig .tc := ⟨.hbm, 176, rfl⟩
abbrev main_v101 : Ref sig .tc := ⟨.hbm, 177, rfl⟩
abbrev main_c_18 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_v6 : Ref sig .tc := ⟨.hbm, 185, rfl⟩
abbrev main_call5_v7 : Ref sig .tc := ⟨.hbm, 186, rfl⟩
abbrev main_call5_v8 : Ref sig .tc := ⟨.hbm, 187, rfl⟩
abbrev main_call5_c : Ref sig .tc := ⟨.hbm, 188, rfl⟩
abbrev main_call5_v9 : Ref sig .tc := ⟨.hbm, 189, rfl⟩
abbrev main_call5_v10 : Ref sig .tc := ⟨.hbm, 190, rfl⟩
abbrev main_call5_v11 : Ref sig .tc := ⟨.hbm, 191, rfl⟩
abbrev main_call5_c_0 : Ref sig .tc := ⟨.hbm, 192, rfl⟩
abbrev main_call5_v12 : Ref sig .tc := ⟨.hbm, 193, rfl⟩
abbrev main_call5_v13 : Ref sig .tc := ⟨.hbm, 194, rfl⟩
abbrev main_v102 : Ref sig .tc := ⟨.hbm, 195, rfl⟩
abbrev main_c_19 : Ref sig .tc := ⟨.hbm, 196, rfl⟩
abbrev main_call6_v0 : Ref sig .tc := ⟨.hbm, 197, rfl⟩
abbrev main_call6_c : Ref sig .tc := ⟨.hbm, 198, rfl⟩
abbrev main_call6_v1 : Ref sig .tc := ⟨.hbm, 199, rfl⟩
abbrev main_call6_c_0 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_c_1 : Ref sig .tc := ⟨.hbm, 204, rfl⟩
abbrev main_call6_v5 : Ref sig .tc := ⟨.hbm, 205, rfl⟩
abbrev main_call6_v6 : Ref sig .tc := ⟨.hbm, 206, rfl⟩
abbrev main_call6_c_2 : Ref sig .tc := ⟨.hbm, 207, rfl⟩
abbrev main_call6_v7 : Ref sig .tc := ⟨.hbm, 208, rfl⟩
abbrev main_call6_v8 : Ref sig .tc := ⟨.hbm, 209, rfl⟩
abbrev main_call6_c_3 : Ref sig .tc := ⟨.hbm, 210, rfl⟩
abbrev main_call6_v9 : Ref sig .tc := ⟨.hbm, 211, rfl⟩
abbrev main_call6_v10 : Ref sig .tc := ⟨.hbm, 212, rfl⟩
abbrev main_call6_v11 : Ref sig .tc := ⟨.hbm, 213, rfl⟩
abbrev main_call6_v12 : Ref sig .tc := ⟨.hbm, 214, rfl⟩
abbrev main_call6_v13 : Ref sig .tc := ⟨.hbm, 215, rfl⟩
abbrev main_call6_v14 : Ref sig .tc := ⟨.hbm, 216, rfl⟩
abbrev main_v103 : Ref sig .tc := ⟨.hbm, 217, rfl⟩
abbrev main_v104 : Ref sig .tc := ⟨.hbm, 218, rfl⟩
abbrev main_c_20 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_c_21 : Ref sig .tc := ⟨.hbm, 225, rfl⟩
abbrev main_v110 : Ref sig .tc := ⟨.hbm, 226, rfl⟩
abbrev main_call7_v0 : Ref sig .tc := ⟨.hbm, 227, rfl⟩
abbrev main_v111 : Ref sig .tc := ⟨.hbm, 228, rfl⟩
abbrev main_v112 : Ref sig .tc := ⟨.hbm, 229, rfl⟩
abbrev main_c_22 : Ref sig .tc := ⟨.hbm, 230, rfl⟩
abbrev main_v113 : Ref sig .tc := ⟨.hbm, 231, rfl⟩
abbrev main_v114 : Ref sig .tc := ⟨.hbm, 232, rfl⟩
abbrev main_c_23 : Ref sig .tc := ⟨.hbm, 233, rfl⟩
abbrev main_c_24 : Ref sig .tc := ⟨.hbm, 234, rfl⟩
abbrev main_call8_v0 : Ref sig .tc := ⟨.hbm, 235, rfl⟩
abbrev main_call8_v1 : Ref sig .tc := ⟨.hbm, 236, rfl⟩
abbrev main_call8_v2 : Ref sig .tc := ⟨.hbm, 237, rfl⟩
abbrev main_call8_v3 : Ref sig .tc := ⟨.hbm, 238, rfl⟩
abbrev main_call8_v4 : Ref sig .tc := ⟨.hbm, 239, rfl⟩
abbrev main_v115 : Ref sig .tc := ⟨.hbm, 240, rfl⟩
abbrev main_c_25 : Ref sig .tc := ⟨.hbm, 241, rfl⟩
abbrev main_v116 : Ref sig .tc := ⟨.hbm, 242, rfl⟩
abbrev main_v117 : Ref sig .tc := ⟨.hbm, 243, rfl⟩
abbrev main_c_26 : Ref sig .tc := ⟨.hbm, 244, rfl⟩
abbrev main_v118 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_v123 : Ref sig .tc := ⟨.hbm, 250, rfl⟩
abbrev main_c_27 : Ref sig .tc := ⟨.hbm, 251, rfl⟩
abbrev main_v124 : Ref sig .tc := ⟨.hbm, 252, rfl⟩
abbrev main_v125 : Ref sig .tc := ⟨.hbm, 253, rfl⟩
abbrev main_c_28 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_c_29 : Ref sig .tc := ⟨.hbm, 263, rfl⟩
abbrev main_v134 : Ref sig .tc := ⟨.hbm, 264, rfl⟩
abbrev main_v135 : Ref sig .tc := ⟨.hbm, 265, rfl⟩
abbrev main_c_30 : Ref sig .tc := ⟨.hbm, 266, rfl⟩
abbrev main_v136 : Ref sig .tc := ⟨.hbm, 267, rfl⟩
abbrev main_v137 : Ref sig .tc := ⟨.hbm, 268, rfl⟩
abbrev main_v138 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_c_31 : Ref sig .tc := ⟨.hbm, 275, rfl⟩
abbrev main_v144 : Ref sig .tc := ⟨.hbm, 276, rfl⟩
abbrev main_v145 : Ref sig .tc := ⟨.hbm, 277, rfl⟩
abbrev main_c_32 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩

abbrev nD : Nat := 1
abbrev τ : Topo := Topo.v7x

variable {F : FTy → Type} [FloatOps F]

abbrev main_while0_count : Scf.Loop 32 := ⟨0#32, 5376#32, 1#32⟩
-- ==== Proof.MaskCell.lean ====
module
public import Idealize.ShloMosaic.Lib.Pointwise
public import Idealize.ShloMosaic.Lib.IdealHost
@[expose] public section
set_option maxRecDepth 16384
noncomputable section
/-! One pixel of the accumulated mask, as a function of the pixel's row and column, of the rows of the
    selected detections and of the prototype vector at that pixel. -/
namespace Cert.MaskCell
open Idealize Idealize.ShloMosaic

/-- A row or column number as a float. -/
def num (n : ℕ) : EReal := FloatOps.sitofp (F := Ideal) .f32 (BitVec.ofNat 32 n)

/-- The probability of a logit, kept where it is at least one half. -/
def kept (z : EReal) : EReal :=
  if Ideal.ofBits .f32 0x3F000000#32 ≤ Ideal.logistic z then Ideal.logistic z else 0

/-- The pixel lies in the detection's box, brought to the prototype's scale, and the detection counts. -/
def inside (r w b0 b1 b2 b3 s : EReal) : Prop :=
  b0 * Ideal.ofBits .f32 0x3E800000#32 ≤ r ∧ r ≤ b2 * Ideal.ofBits .f32 0x3E800000#32 ∧
  b1 * Ideal.ofBits .f32 0x3E800000#32 ≤ w ∧ w ≤ b3 * Ideal.ofBits .f32 0x3E800000#32 ∧ 0 < s

open Classical in
/-- What one detection adds to one pixel. -/
def cell (r w b0 b1 b2 b3 s z : EReal) : EReal := if inside r w b0 b1 b2 b3 s then kept z else 0

/-- The accumulated mask at the pixel in row `r`, column `w`, with the prototype vector `pr` there. -/
def pixel (r w : ℕ) (pr : Fin 32 → EReal) (sel : Fin 320 → Fin 40 → EReal) : EReal :=
  ∑ k : Fin 320, cell (num r) (num w) (sel k 0) (sel k 1) (sel k 2) (sel k 3) (sel k 4)
    (∑ ch : Fin 32, sel k ⟨8 + ch.val, by omega⟩ * pr ch)

/-! ## Words -/

/-- The quotient of a flat pixel number by the row length, rounded down the way the program spells it. -/
def rowWord (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector w 128#32) 0#32))
    (IntOp.subi (IntOp.divsi ArithUnit.vector w 128#32) 1#32)
    (IntOp.divsi ArithUnit.vector w 128#32)

/-- The row length as the remainder's divisor. -/
def len : BitVec 32 := Scalar.select (Scalar.cmpi CmpIPredicate.eq 128#32 0#32) 1#32 128#32

/-- The remainder of a flat pixel number by the row length, the way the program spells it. -/
def colWord (w : BitVec 32) : BitVec 32 :=
  Scalar.select
    (IntOp.andi
      (IntOp.xori (IntOp.cmpi CmpIPredicate.slt (IntOp.remsi ArithUnit.vector w len) 0#32)
        (Scalar.cmpi CmpIPredicate.slt len 0#32))
      (IntOp.cmpi CmpIPredicate.ne (IntOp.remsi ArithUnit.vector w len) 0#32))
    (IntOp.addi (IntOp.remsi ArithUnit.vector w len) len)
    (IntOp.remsi ArithUnit.vector w len)

theorem words (n : Fin 16384) : rowWord (BitVec.ofNat 32 n.val) = BitVec.ofNat 32 (n.val / 128)
    ∧ colWord (BitVec.ofNat 32 n.val) = BitVec.ofNat 32 (n.val % 128) := by
  revert n; decide +kernel

theorem flatWord (a : ℕ) (b : ℕ) :
    IntOp.addi (Scalar.muli (BitVec.ofNat 32 a) 2048#32) (BitVec.ofNat 32 b) = BitVec.ofNat 32 (2048 * a + b) := by
  show BitVec.ofNat 32 a * 2048#32 + BitVec.ofNat 32 b = _
  rw [show 2048#32 = BitVec.ofNat 32 2048 from rfl, ← BitVec.ofNat_mul, ← BitVec.ofNat_add, Nat.mul_comm]

/-! ## Truth values -/

open Classical in
theorem select_ofBool {α : Type} (p : Prop) [Decidable p] (a b : α) :
    Scalar.select (BitVec.ofBool (decide p)) a b = if p then a else b := by
  by_cases h : p <;> simp [h, Scalar.select]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem uitofp_ofBool (p : Prop) [Decidable p] :
    FloatOps.uitofp (F := Ideal) .f32 (BitVec.ofBool (decide p)) = if p then (1 : EReal) else 0 := by
  show (((BitVec.ofBool (decide p)).toNat : ℝ) : EReal) = _
  by_cases h : p <;> simp [h]

theorem quarter : Ideal.ofBits .f32 0x3E800000#32 = (((1 : ℝ) / 4 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem div_four (x : EReal) :
    Ideal.div x (Ideal.ofBits .f32 0x40800000#32) = x * Ideal.ofBits .f32 0x3E800000#32 := by
  rw [four, quarter, Ideal.div_coe (by norm_num)]

/-- What one detection adds, spelt with the box divided by four and the three conditions multiplied in. -/
theorem cell_eq (r w b0 b1 b2 b3 s z : EReal) :
    ((if Ideal.ofBits .f32 0x3F000000#32 ≤ Ideal.div 1 (1 + Ideal.exp (-z))
        then Ideal.div 1 (1 + Ideal.exp (-z)) else 0)
      * FloatOps.uitofp (F := Ideal) .f32 (BitVec.ofBool (decide (0 < s)))
      * FloatOps.uitofp (F := Ideal) .f32 (IntOp.andi
          (BitVec.ofBool (decide (Ideal.div b0 (Ideal.ofBits .f32 0x40800000#32) ≤ r)))
          (BitVec.ofBool (decide (r ≤ Ideal.div b2 (Ideal.ofBits .f32 0x40800000#32)))))
      * FloatOps.uitofp (F := Ideal) .f32 (IntOp.andi
          (BitVec.ofBool (decide (Ideal.div b1 (Ideal.ofBits .f32 0x40800000#32) ≤ w)))
          (BitVec.ofBool (decide (w ≤ Ideal.div b3 (Ideal.ofBits .f32 0x40800000#32))))) : EReal)
      = cell r w b0 b1 b2 b3 s z := by
  simp only [div_four, andi_ofBool, uitofp_ofBool]
  change kept z * _ * _ * _ = _
  unfold cell inside
  split_ifs <;> simp_all

end Cert.MaskCell
end
-- ==== Proof.MaskBlock.lean ====
module
public import proofs.«01_k».proof.Proof.Gen.MasksIdeal.Value
public import proofs.«01_k».proof.Proof.MaskCell
@[expose] public section
set_option maxRecDepth 16384
noncomputable section
/-! What one grid step of the mask kernel stores. -/
namespace Cert.MaskBlock
open Idealize Idealize.ShloMosaic Cert.MasksIdeal Cert.MasksIdeal.Gen Cert.MaskCell

theorem out_apply (i : grid0.Coords) (x0 : Vec Ideal S32x2048 .f32) (x1 : Vec Ideal S320x40 .f32)
    (j0 : Fin 1) (j1 : Fin 2048) (h : 2048 * (i 0).val + j1.val < 16384) :
    out0_2 (F := Ideal) i x0 x1 (ix2 j0 j1)
      = pixel ((2048 * (i 0).val + j1.val) / 128) ((2048 * (i 0).val + j1.val) % 128)
          (fun ch => x0 (ix2 ch j1)) (fun k d => x1 (ix2 k d)) := by
  have hz : (![0, 0] : Fin 2 → ℕ) = fun _ => 0 := by decide
  obtain ⟨hr, hc⟩ := words ⟨_, h⟩
  simp only [rowWord, colWord, len] at hr hc
  unfold_out out0_2
  rw [View.canon_unit_zero hz]
  unfold_payloads
  pointwise []
  simp only [flatWord, hr, hc, andi_ofBool, select_ofBool]
  unfold pixel cell kept inside num
  refine Finset.sum_congr rfl fun k _ => ?_
  congr 1
  refine propext ⟨?_, ?_⟩
  · rintro ⟨⟨⟨⟨h1, h2⟩, h3⟩, h4⟩, h5⟩; exact ⟨h1, h2, h3, h4, h5⟩
  · rintro ⟨h1, h2, h3, h4, h5⟩; exact ⟨⟨⟨⟨h1, h2⟩, h3⟩, h4⟩, h5⟩
end Cert.MaskBlock
end
-- ==== Proof.MaskArray.lean ====
module
public import proofs.«01_k».proof.Proof.MaskBlock
@[expose] public section
set_option maxRecDepth 16384
noncomputable section
/-! The whole result of the mask kernel: every grid step writes its 2048 pixels, and the eight steps cover the array. -/
namespace Cert.MaskArray
open Idealize Idealize.ShloMosaic Idealize.ShloMosaic.TcCoe Idealize.SL.Sem
open Cert.MaskBlock
open Idealize.ShloMosaic.Pipeline (Dat)
open Cert.MasksIdeal Cert.MasksIdeal.Gen Cert.MaskCell

variable (m : (ℓ : Loc nD τ sig) → Buf (Elt Ideal) ℓ) (ρ : Dev nD → PrngReg)

/-- The accumulated mask of a prototype array and the selected rows, flat over the pixels. -/
def mask (x0 : Vec Ideal S1x128x128x32 .f32) (x1 : Vec Ideal S320x40 .f32) : Vec Ideal S1x16384 .f32 :=
  fun j => pixel ((j 1).val / 128) ((j 1).val % 128)
    (fun ch => x0 (ix4 0 ⟨(j 1).val / 128, by have : (j 1).val < 16384 := (j 1).isLt; omega⟩
      ⟨(j 1).val % 128, by omega⟩ ch)) (fun k d => x1 (ix2 k d))

/-- The mask of device `c`'s two arguments. -/
abbrev maskOf (c : Dev nD) : Buf (Elt Ideal) ((c : Thread nD τ).loc main_v3) :=
  mask (m ((c : Thread nD τ).loc main_arg0)) (m ((c : Thread nD τ).loc main_arg1))

/-- Where the blocks of the three windows lie, and which step a point is. -/
theorem idx_facts : ∀ t : Fin cfg0.N, (grid0.coords t 0).val = t.val
    ∧ win0_0.index t 0 = 0 ∧ win0_0.index t 1 = t.val ∧ win0_1.index t 0 = 0 ∧ win0_1.index t 1 = 0
    ∧ win0_2.index t 0 = 0 ∧ win0_2.index t 1 = t.val
    ∧ win0_2.xsize (grid0.coords t) 0 = 1 ∧ win0_2.xsize (grid0.coords t) 1 = 2048 :=
  (by decide +kernel : ∀ t : Fin grid0.N, (grid0.coords t 0).val = t.val
    ∧ win0_0.index t 0 = 0 ∧ win0_0.index t 1 = t.val ∧ win0_1.index t 0 = 0 ∧ win0_1.index t 1 = 0
    ∧ win0_2.index t 0 = 0 ∧ win0_2.index t 1 = t.val
    ∧ win0_2.xsize (grid0.coords t) 0 = 1 ∧ win0_2.xsize (grid0.coords t) 1 = 2048)

theorem lt8 (t : Fin cfg0.N) : t.val < 8 := lt_of_lt_of_eq t.isLt N_0

/-- The transposed flat array read at a channel and a pixel. -/
theorem layout (x : Vec Ideal S1x128x128x32 .f32) (ch : Fin 32) (p : Fin 16384) :
    transpose (α := EReal) (s := S16384x32) S32x16384 [1, 0]
      (shapeCast S16384x32 (shapeCast S128x128x32 x shapeCasts_S1x128x128x32_S128x128x32)
        shapeCasts_S128x128x32_S16384x32) transposes_S16384x32_S32x16384_1_0 (ix2 ch p)
      = x (ix4 0 ⟨p.val / 128, by omega⟩ ⟨p.val % 128, by omega⟩ ch) := by
  pointwise

/-- The region finds the prototype array with the channel first and the pixels flat. -/
theorem V_proto (c : Dev nD) (ch : Fin 32) (p : Fin 16384) :
    (V m c main_v2 : Vec Ideal S32x16384 .f32) (ix2 ch p) = (m ((c : Thread nD τ).loc main_arg0) : Vec Ideal S1x128x128x32 .f32)
      (ix4 0 ⟨p.val / 128, by omega⟩ ⟨p.val % 128, by omega⟩ ch) := by
  have e : V m c main_v2 = transpose (α := EReal) (s := S16384x32) S32x16384 [1, 0]
      (shapeCast S16384x32 (shapeCast S128x128x32 (m ((c : Thread nD τ).loc main_arg0) : Vec Ideal S1x128x128x32 .f32)
        shapeCasts_S1x128x128x32_S128x128x32) shapeCasts_S128x128x32_S16384x32) transposes_S16384x32_S32x16384_1_0 := by
    show StableHlo.after _ _ _ = _
    unfold hostOps0
    after_results
    rfl
  rw [e]
  exact layout _ ch p

theorem proto_block (c : Dev nD) (t : Fin cfg0.N) (ch : Fin 32) (j : Fin 2048) (h : 2048 * t.val + j.val < 16384) :
    (iblk m c 0 t : Vec Ideal S32x2048 .f32) (ix2 ch j) = (m ((c : Thread nD τ).loc main_arg0) : Vec Ideal S1x128x128x32 .f32)
      (ix4 0 ⟨(2048 * t.val + j.val) / 128, by omega⟩ ⟨(2048 * t.val + j.val) % 128, by omega⟩ ch) := by
  rw [← V_proto m c ch ⟨_, h⟩]
  show V m c main_v2 (((cfg0.win 0).blk t).view.emb (ix2 ch j)) = _
  obtain ⟨_, e0, e1, _⟩ := idx_facts t
  refine congrArg (V m c main_v2) ?_
  funext a; apply Fin.ext
  match a with
  | ⟨0, _⟩ => show win0_0.index t (0 : Fin 2) * 32 + 1 * ch.val = ch.val; omega
  | ⟨1, _⟩ => show win0_0.index t (1 : Fin 2) * 2048 + 1 * j.val = 2048 * t.val + j.val; omega

theorem rows_block (c : Dev nD) (t : Fin cfg0.N) (k : Fin 320) (d : Fin 40) :
    (iblk m c 1 t : Vec Ideal S320x40 .f32) (ix2 k d)
      = (m ((c : Thread nD τ).loc main_arg1) : Vec Ideal S320x40 .f32) (ix2 k d) := by
  rw [← V_main_arg1 m c]
  show V m c main_arg1 (((cfg0.win 1).blk t).view.emb (ix2 k d)) = _
  obtain ⟨_, _, _, e0, e1, _⟩ := idx_facts t
  refine congrArg (V m c main_arg1) ?_
  funext a; apply Fin.ext
  match a with
  | ⟨0, _⟩ => show win0_1.index t (0 : Fin 2) * 320 + 1 * k.val = k.val; omega
  | ⟨1, _⟩ => show win0_1.index t (1 : Fin 2) * 40 + 1 * d.val = d.val; omega

/-- What a step writes back is its block of the mask. -/
theorem flushed_eq (c : Dev nD) (t : Fin cfg0.N) :
    (dats m 0 c).flushed 2 t = (win0_2.blk t).view.read (Elt Ideal) (maskOf m c) := by
  rw [Value.flushed2]
  obtain ⟨e, _, _, _, _, i0, i1, _⟩ := idx_facts t
  have ht := lt8 t
  funext j
  show out0_2 (F := Ideal) (grid0.coords t) (iblk m c 0 t) (iblk m c 1 t) j
    = mask (m ((c : Thread nD τ).loc main_arg0)) (m ((c : Thread nD τ).loc main_arg1)) ((win0_2.blk t).view.emb j)
  obtain ⟨j0, j1, rfl⟩ : ∃ (a : Fin 1) (b : Fin 2048), j = ix2 a b := ⟨j 0, j 1, eq_ix2 j⟩
  have hj := j1.isLt
  rw [out_apply _ _ _ _ _ (by rw [e]; omega)]
  have hp : (((win0_2.blk t).view.emb (ix2 j0 j1)) 1).val = 2048 * t.val + j1.val := by
    show win0_2.index t (1 : Fin 2) * 2048 + 1 * j1.val = _
    omega
  unfold mask
  simp only [hp, e, rows_block]
  refine congrArg (fun f => pixel _ _ f _) (funext fun ch => ?_)
  exact proto_block m c t ch j1 (by omega)

theorem mem_blk (t : Fin cfg0.N) (i : S1x16384.Idx) :
    i ∈ ((cfg0.win 2).blk t).view.set ↔ t.val * 2048 ≤ (i 1 : Nat) ∧ (i 1 : Nat) < t.val * 2048 + 2048 := by
  show i ∈ ((View.whole main_v3).slice (win0_2.rect t)).set ↔ _
  rw [View.set_slice_whole, Rect.mem_set_unit]
  have h0 : (i 0 : Nat) < 1 := (i 0).isLt
  obtain ⟨_, _, _, _, _, i0, i1, x0, x1⟩ := idx_facts t
  refine ⟨fun h => ?_, fun h a => ?_⟩
  · have : win0_2.index t 1 * 2048 ≤ (i 1 : Nat) ∧ (i 1 : Nat) < win0_2.index t 1 * 2048 + win0_2.xsize (grid0.coords t) 1 := h 1
    omega
  · match a with
    | ⟨0, _⟩ =>
      show win0_2.index t 0 * 1 ≤ (i 0 : Nat) ∧ (i 0 : Nat) < win0_2.index t 0 * 1 + win0_2.xsize (grid0.coords t) 0
      omega
    | ⟨1, _⟩ =>
      show win0_2.index t 1 * 2048 ≤ (i 1 : Nat) ∧ (i 1 : Nat) < win0_2.index t 1 * 2048 + win0_2.xsize (grid0.coords t) 1
      omega

/-- Every pixel is in some step's block. -/
theorem cover (i : S1x16384.Idx) :
    ∃ t : Fin cfg0.N, (cfg0.win 2).flush t = true ∧ i ∈ ((cfg0.win 2).blk t).view.set := by
  have h1 : (i 1 : Nat) < 16384 := (i 1).isLt
  have hN : cfg0.N = 8 := N_0
  refine ⟨⟨(i 1 : Nat) / 2048, by omega⟩, flush0_2 _, ?_⟩
  rw [mem_blk]
  dsimp only
  omega

/-- The run of the kernel: the result is the mask, the arguments are unchanged. -/
theorem run : θ_run defs (onTc (τ := τ) (main (F := Ideal))) ⟨m, fun _ => 0, ρ⟩ fun r => ∀ c : Dev nD,
      r.2.mem ((c : Thread nD τ).loc main_v3) = maskOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      ((dats m 0 c).arrAt_eq_of_cover 2 (maskOf m c) (fun t _ => flushed_eq m c t) cover), (h c).2⟩)
    (Value.run_blocks m ρ)

end Cert.MaskArray
end
-- ==== Proof.MaskReference.lean ====
module
public import proofs.«01_k».proof.Proof.Gen.MasksRefIdeal.Read
public import proofs.«01_k».proof.Proof.MaskCell
@[expose] public section
set_option maxRecDepth 16384
noncomputable section
/-! The reference program's result at one pixel. -/
namespace Cert.MaskReference
open Idealize Idealize.ShloMosaic Cert.MasksRefIdeal Cert.MasksRefIdeal.Read Cert.MaskCell
theorem ref_apply (x0 : Vec Ideal S1x128x128x32 .f32) (x1 : Vec Ideal S320x40 .f32) (j0 : Fin 1) (p : Fin 16384) :
    val_main_v64 (F := Ideal) x0 x1 (ix2 j0 p) =
     pixel (p.val / 128) (p.val % 128)
          (fun ch => x0 (ix4 0 ⟨p.val / 128, by omega⟩ ⟨p.val % 128, by omega⟩ ch)) (fun k d => x1 (ix2 k d)) := by
  rw [val_main_v64_apply, val_main_v63_apply]
  simp only [val_main_cst_5_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_cst_4_apply, val_main_v22_apply, val_main_v21_apply, val_main_v20_apply, val_main_v19_apply, val_main_v18_apply, val_main_cst_3_apply, val_main_v17_apply, val_main_v16_apply, val_main_cst_2_apply, val_main_v15_apply, val_main_v14_apply, val_main_cst_1_apply, val_main_v13_apply, val_main_v12_apply, val_main_cst_0_apply, val_main_v11_apply, val_main_v10_apply, val_main_v9_apply, val_main_v8_apply, val_main_v7_apply, val_main_v6_apply, val_main_v5_apply, val_main_v4_apply, val_main_cst_apply, val_main_v3_apply, val_main_v2_apply, val_main_v1_apply, val_main_v0_apply]
  pointwise []
  unfold pixel
  refine Finset.sum_congr rfl fun k _ => ?_
  rw [← cell_eq]
  unfold num
  have e0 : idx_main_v1 (idx_main_v25 (idx_main_v26 (idx_main_v39 (idx_main_v40 (idx_main_v59
      (idx_main_v63 (idx_main_v64 (ix2 j0 p)) k)))))) = ix2 k 0 := by
    funext a; match a with | ⟨0, _⟩ => exact Fin.ext (by have := k.isLt; simp) | ⟨1, _⟩ => rfl
  have e2 : idx_main_v1 (idx_main_v29 (idx_main_v30 (idx_main_v43 (idx_main_v45 (idx_main_v59
      (idx_main_v63 (idx_main_v64 (ix2 j0 p)) k)))))) = ix2 k 2 := by
    funext a; match a with | ⟨0, _⟩ => exact Fin.ext (by have := k.isLt; simp) | ⟨1, _⟩ => rfl
  have e1 : idx_main_v1 (idx_main_v27 (idx_main_v28 (idx_main_v49 (idx_main_v50 (idx_main_v61
      (idx_main_v63 (idx_main_v64 (ix2 j0 p)) k)))))) = ix2 k 1 := by
    funext a; match a with | ⟨0, _⟩ => exact Fin.ext (by have := k.isLt; simp) | ⟨1, _⟩ => rfl
  have e3 : idx_main_v1 (idx_main_v31 (idx_main_v32 (idx_main_v53 (idx_main_v55 (idx_main_v61
      (idx_main_v63 (idx_main_v64 (ix2 j0 p)) k)))))) = ix2 k 3 := by
    funext a; match a with | ⟨0, _⟩ => exact Fin.ext (by have := k.isLt; simp) | ⟨1, _⟩ => rfl
  have e4 : idx_main_v2 (idx_main_v3 (idx_main_v20 (idx_main_v21
      (idx_main_v63 (idx_main_v64 (ix2 j0 p)) k)))) = ix2 k 4 := by
    funext a; match a with | ⟨0, _⟩ => exact Fin.ext (by have := k.isLt; simp) | ⟨1, _⟩ => rfl
  have ez : (∑ ch, x0 (idx_main_v0 (lidx_main_v9 (idx_main_v63 (idx_main_v64 (ix2 j0 p)) k) ch))
        * x1 (idx_main_v7 (idx_main_v8 (ridx_main_v9 (idx_main_v63 (idx_main_v64 (ix2 j0 p)) k) ch))) : EReal)
      = ∑ ch : Fin 32, x1 (ix2 k ⟨8 + ch.val, by omega⟩)
          * x0 (ix4 0 ⟨p.val / 128, by omega⟩ ⟨p.val % 128, by omega⟩ ch) := by
    refine Finset.sum_congr rfl fun ch _ => ?_
    rw [mul_comm]
    have a1 : idx_main_v7 (idx_main_v8 (ridx_main_v9 (idx_main_v63 (idx_main_v64 (ix2 j0 p)) k) ch))
        = ix2 k ⟨8 + ch.val, by omega⟩ := by
      funext a; match a with | ⟨0, _⟩ => rfl | ⟨1, _⟩ => rfl
    have a0 : idx_main_v0 (lidx_main_v9 (idx_main_v63 (idx_main_v64 (ix2 j0 p)) k) ch)
        = ix4 0 ⟨p.val / 128, by omega⟩ ⟨p.val % 128, by omega⟩ ch := by
      funext a
      match a with
      | ⟨0, _⟩ => rfl
      | ⟨1, _⟩ => apply Fin.ext; have := j0.isLt; have := p.isLt; have := ch.isLt; simp; omega
      | ⟨2, _⟩ => apply Fin.ext; have := j0.isLt; have := p.isLt; have := ch.isLt; simp; omega
      | ⟨3, _⟩ => apply Fin.ext; have := j0.isLt; have := p.isLt; have := ch.isLt; simp
    rw [a0, a1]
  rw [e0, e1, e2, e3, e4, ez]
end Cert.MaskReference
end
-- ==== Proof.MaskClaims.lean ====
module
public import proofs.«01_k».proof.Defs
public import proofs.«01_k».proof.Proof.Gen.Masks.Frame
public import proofs.«01_k».proof.Proof.MaskArray
public import proofs.«01_k».proof.Proof.MaskReference
public import Idealize.ShloMosaic.Lib.Quiescent
@[expose] public section
set_option maxRecDepth 16384
noncomputable section
/-! The five claims about the mask kernel. -/
namespace Cert.Proof.MaskClaims
open Idealize Idealize.ShloMosaic Idealize.ShloMosaic.TcCoe Idealize.SL.Sem

theorem frame : Cert.quiescent_Masks := fun m ρ _ => Cert.Masks.Gen.frame m ρ
theorem frame_ideal : Cert.quiescent_MasksIdeal := fun m ρ _ => Cert.MasksIdeal.Gen.frame m ρ

/-- The reference is a line of host operations, which leaves its arguments and declares no semaphore. -/
theorem frame_reference : Cert.quiescent_MasksRefIdeal := fun m ρ _ =>
  (θ_run Cert.MasksRefIdeal.defs _ _).mono (fun r h => ⟨fun c => ⟨(h c).2.1, (h c).2.2⟩,
      Idealize.ShloMosaic.sem_eq_zero_of_no_sems (by decide) r.2⟩)
    (Cert.MasksRefIdeal.Value.run (F := Ideal) m ρ)

theorem preserves : Cert.preserves_Masks_MasksIdeal := trivial

/-- Kernel and reference end with the same mask. -/
theorem algebraic : Cert.algebraic_MasksIdeal_MasksRefIdeal := by
  intro m ρ m' ρ' _ hagree
  refine ⟨fun c => Cert.MaskArray.maskOf m c, Cert.MaskArray.run m ρ, ?_⟩
  refine (θ_run Cert.MasksRefIdeal.defs _ _).mono (fun _ h c => ⟨(h c).1.trans ?_, (h c).2⟩)
    (Cert.MasksRefIdeal.Value.run (F := Ideal) m' ρ')
  rw [Cert.MasksRefIdeal.Read.val_main_v64_eq]
  rw [(hagree c).1, (hagree c).2]
  funext j
  obtain ⟨j0, p, rfl⟩ : ∃ (a : Fin 1) (b : Fin 16384), j = ix2 a b := ⟨j 0, j 1, eq_ix2 j⟩
  exact Cert.MaskReference.ref_apply _ _ j0 p

end Cert.Proof.MaskClaims
end
-- ==== Proof.Sweep.lean ====
module
public import proofs.«01_k».proof.SelectIdeal
public import Idealize.ShloMosaic.Lib.Pipeline.Regions
@[expose] public section
set_option maxRecDepth 65536
noncomputable section
/-! The selection kernel's text, written once as a sweep over its 21 blocks of 256 candidates and a ranking over its
42 chunks of 128, and the printed body as that text. -/
namespace Cert.Sweep
open Idealize Idealize.ShloMosaic Idealize.SL.Sem Cert.SelectIdeal
variable {F : FTy → Type} [FloatOps F] [Named F] [Cert.SelectIdeal.Facts]
open Facts₀ Facts

/-- The five columns of a block of candidates: corners and area. -/
structure Cols (F : FTy → Type) where
  y1 : FVec F S256x1 .f32
  x1 : FVec F S256x1 .f32
  y2 : FVec F S256x1 .f32
  x2 : FVec F S256x1 .f32
  ar : FVec F S256x1 .f32

/-- The five rows over all candidates. -/
structure Rows (F : FTy → Type) where
  y1 : FVec F S1x5376 .f32
  x1 : FVec F S1x5376 .f32
  y2 : FVec F S1x5376 .f32
  x2 : FVec F S1x5376 .f32
  ar : FVec F S1x5376 .f32

theorem slicesBlock (b : Fin 21) : S1x5376.Slices ![0, 256 * b.val] S1x256 := by
  revert b; decide

theorem slicesChunk (c : Fin 42) : S1x5376.Slices ![0, 128 * c.val] S1x128 := by
  revert c; decide

theorem slicesOne (c : Fin 42) : S1x42.Slices ![0, c.val] S1x1 := by
  revert c; decide

theorem inbBlock (b : Fin 21) : ∀ a, (![256 * b.val, 0] : Fin 2 → Nat) a + S256x4.size a ≤ S5376x40.size a := by
  revert b; decide

/-- Block `b` of a row over all candidates. -/
def block (v : FVec F S1x5376 .f32) (b : Fin 21) : FVec F S1x256 .f32 :=
  extractStridedSlice S1x256 ![0, 256 * b.val] v (slicesBlock b)

/-- A column of the block's rows as loaded. -/
def cols (v : FVec F S256x4 .f32) : Cols F :=
  let y1 := extractStridedSlice S256x1 ![0, 0] v slices_S256x4_o0_0_S256x1
  let x1 := extractStridedSlice S256x1 ![0, 1] v slices_S256x4_o0_1_S256x1
  let y2 := extractStridedSlice S256x1 ![0, 2] v slices_S256x4_o0_2_S256x1
  let x2 := extractStridedSlice S256x1 ![0, 3] v slices_S256x4_o0_3_S256x1
  ⟨y1, x1, y2, x2, mulf (subf y2 y1) (subf x2 x1)⟩

def down (v : FVec F S256x1 .f32) : FVec F S256x256 .f32 := broadcastTo S256x256 v broadcasts_S256x1_S256x256
def across (v : FVec F S1x256 .f32) : FVec F S256x256 .f32 := broadcastTo S256x256 v broadcasts_S1x256_S256x256
def splat (w : BitVec 32) : FVec F S256x256 .f32 := broadcast S256x256 (Scalar.ofBits .f32 w)

def four : FVec F S256x256 .f32 := broadcast S256x256 (Named.named κ "four" 0x40800000#32)

def inter (c : Cols F) (r : Rows F) (b : Fin 21) : FVec F S256x256 .f32 :=
  mulf (maximumf (subf (minimumf (down c.y2) (across (block r.y2 b))) (maximumf (down c.y1) (across (block r.y1 b)))) (splat 0x00000000#32))
    (maximumf (subf (minimumf (down c.x2) (across (block r.x2 b))) (maximumf (down c.x1) (across (block r.x1 b)))) (splat 0x00000000#32))

def union (c : Cols F) (r : Rows F) (b : Fin 21) : FVec F S256x256 .f32 :=
  addf (subf (addf (down c.ar) (across (block r.ar b))) (inter c r b)) (splat 0x3089705F#32)

/-- Which candidate of the block covers which of block `b`. -/
def tile (c : Cols F) (r : Rows F) (b : Fin 21) : FVec F S256x256 .f32 :=
  sitofp .f32 (extui 32 (cmpf .ogt
    (subf (subf (mulf four (inter c r b)) (mulf (splat 0x40000000#32) (union c r b))) (union c r b))
    (mulf (union c r b) (splat 0x34000000#32))) natLt_1_32)

/-- `k` less what the candidates `a` suppress through `t`. -/
def less (a : FVec F S1x256 .f32) (t : FVec F S256x256 .f32) (k : FVec F S1x256 .f32) : FVec F S1x256 .f32 :=
  select (cmpf .ogt (matmul dot_S1x256_S256x256_S1x256_1_0_0_1_n_n none a t (constant S1x256 .f32 0x00000000#32))
    (broadcast S1x256 (Scalar.ofBits .f32 0x3F000000#32))) (broadcast S1x256 (Scalar.ofBits .f32 0x00000000#32)) k

/-- A call of block `b`'s loop: its tile, its row, and the two carried values. -/
def callAt : Fin 21 → FVec F S256x256 .f32 → FVec F S1x256 .f32 → FVec F S1x256 .f32 → BitVec 1 →
    Prog (TpuEff nD τ sig (Elt F) (Λ₀ F) .tc) (FVec F S1x256 .f32 × BitVec 1)
  | 0, s, k, a, f => Prog.lift (.call (1 : (Λ₀ F).Label) ⟨s, k, a, f⟩)
  | 1, s, k, a, f => Prog.lift (.call (2 : (Λ₀ F).Label) ⟨s, k, a, f⟩)
  | 2, s, k, a, f => Prog.lift (.call (3 : (Λ₀ F).Label) ⟨s, k, a, f⟩)
  | 3, s, k, a, f => Prog.lift (.call (4 : (Λ₀ F).Label) ⟨s, k, a, f⟩)
  | 4, s, k, a, f => Prog.lift (.call (5 : (Λ₀ F).Label) ⟨s, k, a, f⟩)
  | 5, s, k, a, f => Prog.lift (.call (6 : (Λ₀ F).Label) ⟨s, k, a, f⟩)
  | 6, s, k, a, f => Prog.lift (.call (7 : (Λ₀ F).Label) ⟨s, k, a, f⟩)
  | 7, s, k, a, f => Prog.lift (.call (8 : (Λ₀ F).Label) ⟨s, k, a, f⟩)
  | 8, s, k, a, f => Prog.lift (.call (9 : (Λ₀ F).Label) ⟨s, k, a, f⟩)
  | 9, s, k, a, f => Prog.lift (.call (10 : (Λ₀ F).Label) ⟨s, k, a, f⟩)
  | 10, s, k, a, f => Prog.lift (.call (11 : (Λ₀ F).Label) ⟨s, k, a, f⟩)
  | 11, s, k, a, f => Prog.lift (.call (12 : (Λ₀ F).Label) ⟨s, k, a, f⟩)
  | 12, s, k, a, f => Prog.lift (.call (13 : (Λ₀ F).Label) ⟨s, k, a, f⟩)
  | 13, s, k, a, f => Prog.lift (.call (14 : (Λ₀ F).Label) ⟨s, k, a, f⟩)
  | 14, s, k, a, f => Prog.lift (.call (15 : (Λ₀ F).Label) ⟨s, k, a, f⟩)
  | 15, s, k, a, f => Prog.lift (.call (16 : (Λ₀ F).Label) ⟨s, k, a, f⟩)
  | 16, s, k, a, f => Prog.lift (.call (17 : (Λ₀ F).Label) ⟨s, k, a, f⟩)
  | 17, s, k, a, f => Prog.lift (.call (18 : (Λ₀ F).Label) ⟨s, k, a, f⟩)
  | 18, s, k, a, f => Prog.lift (.call (19 : (Λ₀ F).Label) ⟨s, k, a, f⟩)
  | 19, s, k, a, f => Prog.lift (.call (20 : (Λ₀ F).Label) ⟨s, k, a, f⟩)
  | 20, s, k, a, f => Prog.lift (.call (21 : (Λ₀ F).Label) ⟨s, k, a, f⟩)
  | ⟨n + 21, h⟩, _, _, _, _ => absurd h (by omega)

/-- What that call runs. -/
def loopAt : Fin 21 → FVec F S256x256 .f32 → FVec F S1x256 .f32 → FVec F S1x256 .f32 → BitVec 1 →
    Prog (TpuEff nD τ sig (Elt F) (Λ₀ F) .tc) (FVec F S1x256 .f32 × BitVec 1)
  | 0, s, k, a, f => cc0_while1 s k a f
  | 1, s, k, a, f => cc0_while2 s k a f
  | 2, s, k, a, f => cc0_while3 s k a f
  | 3, s, k, a, f => cc0_while4 s k a f
  | 4, s, k, a, f => cc0_while5 s k a f
  | 5, s, k, a, f => cc0_while6 s k a f
  | 6, s, k, a, f => cc0_while7 s k a f
  | 7, s, k, a, f => cc0_while8 s k a f
  | 8, s, k, a, f => cc0_while9 s k a f
  | 9, s, k, a, f => cc0_while10 s k a f
  | 10, s, k, a, f => cc0_while11 s k a f
  | 11, s, k, a, f => cc0_while12 s k a f
  | 12, s, k, a, f => cc0_while13 s k a f
  | 13, s, k, a, f => cc0_while14 s k a f
  | 14, s, k, a, f => cc0_while15 s k a f
  | 15, s, k, a, f => cc0_while16 s k a f
  | 16, s, k, a, f => cc0_while17 s k a f
  | 17, s, k, a, f => cc0_while18 s k a f
  | 18, s, k, a, f => cc0_while19 s k a f
  | 19, s, k, a, f => cc0_while20 s k a f
  | 20, s, k, a, f => cc0_while21 s k a f
  | ⟨n + 21, h⟩, _, _, _, _ => absurd h (by omega)

/-- The loop of block `b`, entered. -/
def settle (b : Fin 21) (s : FVec F S256x256 .f32) (k : FVec F S1x256 .f32) :
    Prog (TpuEff nD τ sig (Elt F) (Λ₀ F) .tc) (FVec F S1x256 .f32 × BitVec 1) := callAt b s k k 1#1

/-- The strict upper triangle of a tile. -/
def upper : FVec F S256x256 .f32 :=
  sitofp .f32 (extui 32 (cmpi .slt (iota .tc S256x256 32 [0] iota_S256x256_d0_w32)
    (iota .tc S256x256 32 [1] iota_S256x256_d1_w32)) natLt_1_32)

/-- The blocks after block `b` is settled at `a`: `a` there, the later ones less what it suppresses. -/
def after (b : Fin 21) (c : Cols F) (r : Rows F) (a : FVec F S1x256 .f32) (k : Fin 21 → FVec F S1x256 .f32) :
    Fin 21 → FVec F S1x256 .f32 := fun j =>
  if j.val < b.val then k j else if j.val = b.val then a else less a (tile c r j) (k j)

/-- The sweep from block `b` on, `n` blocks being left. -/
def sweep (arg0 : Memref sig .tc .vmem S5376x40 .f32) (r : Rows F) : (n b : ℕ) → b + n = 21 →
    (Fin 21 → FVec F S1x256 .f32) → Prog (TpuEff nD τ sig (Elt F) (Λ₀ F) .tc) (Fin 21 → FVec F S1x256 .f32)
  | 0, _, _, k => pure k
  | n + 1, b, h, k => do
    let v : Vec F S256x4 .f32 ← Prog.lift (.load arg0 (Rect.unit (s := S5376x40) ![256 * b, 0] S256x4.size
      (inbBlock ⟨b, by omega⟩)).toLoadRect (View.loadsAt_vmem h_S256x4))
    let (a, _) ← settle ⟨b, by omega⟩ (mulf (tile (cols (shapeCast S256x4 v shapeCasts_S256x4_S256x4)) r ⟨b, by omega⟩) upper)
      (k ⟨b, by omega⟩)
    sweep arg0 r n (b + 1) (by omega) (after ⟨b, by omega⟩ (cols (shapeCast S256x4 v shapeCasts_S256x4_S256x4)) r a k)

/-! ### The ranking -/

theorem shapes {α : Type} (s : Shape) {n : ℕ} (f : Fin n → s.Idx → α) :
    (List.ofFn fun b : Fin n => (⟨s, f b⟩ : (s : Shape) × (s.Idx → α))).map (·.fst) = List.replicate n s := by
  simp [List.map_ofFn, Function.comp_def, List.ofFn_const]

def concatBlocks (k : Fin 21 → FVec F S1x256 .f32) : FVec F S1x5376 .f32 :=
  concatenate S1x5376 1 (List.ofFn fun b : Fin 21 => ⟨S1x256, k b⟩) (by rw [shapes]; decide)

def tri : FVec F S128x128 .f32 :=
  sitofp .f32 (extui 32 (cmpi .sle (iota .tc S128x128 32 [0] iota_S128x128_d0_w32)
    (iota .tc S128x128 32 [1] iota_S128x128_d1_w32)) natLt_1_32)

def slot : IVec S320x128 32 := iota .tc S320x128 32 [0] iota_S320x128_d0_w32

def chunk (k : FVec F S1x5376 .f32) (c : Fin 42) : FVec F S1x128 .f32 :=
  extractStridedSlice S1x128 ![0, 128 * c.val] k (slicesChunk c)

def within (k : FVec F S1x5376 .f32) (c : Fin 42) : FVec F S1x128 .f32 :=
  matmul dot_S1x128_S128x128_S1x128_1_0_0_1_n_n none (chunk k c) tri (constant S1x128 .f32 0x00000000#32)

def totals (k : FVec F S1x5376 .f32) : FVec F S1x42 .f32 :=
  concatenate S1x42 1 (List.ofFn fun c : Fin 42 =>
    ⟨S1x1, extractStridedSlice S1x1 ![0, 127] (within k c) slices_S1x128_o0_127_S1x1⟩) (by rw [shapes]; decide)

def before (k : FVec F S1x5376 .f32) : FVec F S1x42 .f32 :=
  matmul dot_S1x42_S42x42_S1x42_1_0_0_1_n_n none (totals k)
    (sitofp .f32 (extui 32 (cmpi .slt (iota .tc S42x42 32 [0] iota_S42x42_d0_w32)
      (iota .tc S42x42 32 [1] iota_S42x42_d1_w32)) natLt_1_32)) (constant S1x42 .f32 0x00000000#32)

def hit (k : FVec F S1x5376 .f32) (c : Fin 42) : FVec F S320x128 .f32 :=
  select (andi (andi (cmpf .oeq (broadcastTo S320x128 (subf (addf (within k c)
      (broadcastTo S1x128 (extractStridedSlice S1x1 ![0, c.val] (before k) (slicesOne c)) broadcasts_S1x1_S1x128))
      (broadcast S1x128 (Scalar.ofBits .f32 0x3F800000#32))) broadcasts_S1x128_S320x128) (sitofp .f32 slot))
    (broadcastTo S320x128 (cmpf .ogt (chunk k c) (broadcast S1x128 (Scalar.ofBits .f32 0x00000000#32))) broadcasts_S1x128_S320x128))
    (cmpi .slt slot (broadcast S320x128 300#32)))
    (broadcast S320x128 (Scalar.ofBits .f32 0x3F800000#32)) (broadcast S320x128 (Scalar.ofBits .f32 0x00000000#32))

def hits (k : FVec F S1x5376 .f32) : FVec F S320x5376 .f32 :=
  concatenate S320x5376 1 (List.ofFn fun c : Fin 42 => ⟨S320x128, hit k c⟩) (by rw [shapes]; decide)

/-- The rows as the kernel cuts them from the transposed first eight columns. -/
def rowOf (v : FVec F S5376x8 .f32) (d : Fin 5) : FVec F S1x5376 .f32 :=
  extractStridedSlice S1x5376 ![d.val, 0] (transpose S8x5376 [1, 0] v transposes_S5376x8_p1_0_S8x5376) (by revert d; decide)

def rows (v : FVec F S5376x8 .f32) : Rows F :=
  ⟨rowOf v 0, rowOf v 1, rowOf v 2, rowOf v 3, mulf (subf (rowOf v 2) (rowOf v 0)) (subf (rowOf v 3) (rowOf v 1))⟩

def start (v : FVec F S5376x8 .f32) (b : Fin 21) : FVec F S1x256 .f32 :=
  sitofp .f32 (extui 32 (cmpf .oge (block (rowOf v 4) b) (broadcast S1x256 (Scalar.ofBits .f32 0x3E800000#32))) natLt_1_32)

/-- The kernel. -/
def whole (arg0 : Memref sig .tc .vmem S5376x40 .f32) (arg1 : Memref sig .tc .vmem S320x40 .f32) (harg1 : arg1.IsWhole) :
    Prog (TpuEff nD τ sig (Elt F) (Λ₀ F) .tc) PUnit := do
  let v : Vec F S5376x8 .f32 ← Prog.lift (.load arg0 (Rect.unit (s := S5376x40) ![0, 0] S5376x8.size inb_S5376x40_S5376x8_0_0).toLoadRect
    (View.loadsAt_vmem h_S5376x8))
  let k ← sweep arg0 (rows (shapeCast S5376x8 v shapeCasts_S5376x8_S5376x8)) 21 0 rfl
    (start (shapeCast S5376x8 v shapeCasts_S5376x8_S5376x8))
  let p : Vec F S5376x40 .f32 ← Prog.lift (.load arg0 (Rect.unit (s := S5376x40) ![0, 0] S5376x40.size inb_S5376x40_S5376x40_0_0).toLoadRect
    (View.loadsAt_vmem h_S5376x40))
  let _ ← Prog.lift (.load arg1 (Rect.unit (s := S320x40) ![0, 0] S320x40.size inb_S320x40_S320x40_0_0).toLoadRect
    (View.loadsAt_vmem h_S320x40))
  Prog.lift (.store arg1 (Rect.unit (s := S320x40) ![0, 0] S320x40.size inb_S320x40_S320x40_0_0)
    (matmul dot_S320x5376_S5376x40_S320x40_1_0_0_1_n_n (some .fp32) (hits (concatBlocks k))
      (shapeCast S5376x40 p shapeCasts_S5376x40_S5376x40) (constant S320x40 .f32 0x00000000#32))
    Finset.univ (View.stores_vmem_bits_univ h_S320x40 rfl) (.inl rfl))
  pure ⟨⟩

theorem printed (arg0 : Memref sig .tc .vmem S5376x40 .f32) (harg0 : arg0.IsWhole)
    (arg1 : Memref sig .tc .vmem S320x40 .f32) (harg1 : arg1.IsWhole) :
    cc0__nms_select_kernel (F := F) arg0 harg0 arg1 harg1 = whole arg0 arg1 harg1 := by
  chain_rfl
end Cert.Sweep
end
-- ==== Proof.Settle.lean ====
module
public import proofs.«01_k».proof.Proof.Sweep
public import Idealize.ShloMosaic.Lib.Pointwise
@[expose] public section
set_option maxRecDepth 65536
noncomputable section
/-! One block's loop at the exact values: rows of zeros and ones, its step, and where it settles. -/
namespace Cert.Sweep
open Idealize Idealize.ShloMosaic Cert.SelectIdeal
open scoped Classical
variable [Cert.SelectIdeal.Facts]

/-- The row that is one where `p` holds. -/
def ind1 (p : Fin 256 → Prop) : FVec Ideal S1x256 .f32 := fun i => if p (i 1) then 1 else 0

/-- The tile that is one where `s` holds. -/
def ind2 (s : Fin 256 → Fin 256 → Prop) : FVec Ideal S256x256 .f32 := fun i => if s (i 0) (i 1) then 1 else 0

theorem ind1_apply (p : Fin 256 → Prop) (u : Fin 1) (v : Fin 256) : ind1 p (ix2 u v) = if p v then 1 else 0 := rfl

theorem ind2_apply (s : Fin 256 → Fin 256 → Prop) (u v : Fin 256) : ind2 s (ix2 u v) = if s u v then 1 else 0 := rfl

theorem half : Ideal.ofBits .f32 0x3F000000#32 = (((1 : ℝ) / 2 : ℝ) : EReal) := by
  simp [Ideal.ofBits, Ideal.ieee, -EReal.coe_mul]; norm_num

theorem half_lt_one : Ideal.ofBits .f32 0x3F000000#32 < 1 := by
  rw [half, ← EReal.coe_one, EReal.coe_lt_coe_iff]; norm_num

theorem half_pos : 0 < Ideal.ofBits .f32 0x3F000000#32 := by
  rw [half, ← EReal.coe_zero, EReal.coe_lt_coe_iff]; norm_num

/-- A sum of zeros and ones exceeds a half when one of them is a one. -/
theorem half_lt_sum {ι : Type} [Fintype ι] (P : ι → Prop) [DecidablePred P] :
    Ideal.ofBits .f32 0x3F000000#32 < ∑ x, (if P x then (1 : EReal) else 0) ↔ ∃ x, P x := by
  constructor
  · intro h
    by_contra hn
    push Not at hn
    rw [Finset.sum_congr rfl fun x _ => if_neg (hn x), Finset.sum_const_zero] at h
    exact absurd h (not_lt.2 half_pos.le)
  · rintro ⟨x, hx⟩
    refine half_lt_one.trans_le ?_
    have := Finset.single_le_sum (f := fun x => if P x then (1 : EReal) else 0) (s := Finset.univ)
      (fun y _ => by split <;> simp) (Finset.mem_univ x)
    simpa [hx] using this

theorem one_mul_one (p q : Prop) : ((if p then (1 : EReal) else 0) * if q then 1 else 0) = if p ∧ q then 1 else 0 := by
  by_cases hp : p <;> by_cases hq : q <;> simp [hp, hq]

theorem less_ind (p q : Fin 256 → Prop) (s : Fin 256 → Fin 256 → Prop) :
    less (F := Ideal) (ind1 p) (ind2 s) (ind1 q) = ind1 fun j => q j ∧ ¬ ∃ i, p i ∧ s i j := by
  funext i
  obtain ⟨u, v, rfl⟩ : ∃ u v, i = ix2 u v := ⟨_, _, eq_ix2 i⟩
  unfold less
  pointwise []
  simp only [ind1_apply, ind2_apply]
  simp only [one_mul_one, half_lt_sum]
  by_cases h : ∃ i, p i ∧ s i v <;> simp [h]

/-- Whether the step moved: the loop's second carried value. -/
def moved (n a : FVec Ideal S1x256 .f32) : BitVec 1 :=
  Scalar.cmpf (F := Ideal) (φ := .f32) .ogt (extractAt ![0, 0, 0] (shapeCast S1x1x1 (multiReduction .maximumf [1, 2] S1
    (shapeCast S1x1x256 (select (cmpf .one n a) (broadcast S1x256 (Scalar.ofBits (F := Ideal) .f32 0x3F800000#32))
      (broadcast S1x256 (Scalar.ofBits (F := Ideal) .f32 0x00000000#32))) Facts₀.shapeCasts_S1x256_S1x1x256) 0xFF800000#32
      Facts₀.reduces_S1x1x256_S1 (.inl rfl) rfl) Facts₀.shapeCasts_S1_S1x1x1) Facts₀.inpos_S1x1x1_p0_0_0)
    (Scalar.ofBits (F := Ideal) .f32 0x00000000#32)

theorem bottom : ¬ 0 < Ideal.ofBits .f32 0xFF800000#32 := by
  simp [Ideal.ofBits, Ideal.ieee]

theorem moved_ind (p q : Fin 256 → Prop) : moved (ind1 p) (ind1 q) = if p = q then 0#1 else 1#1 := by
  unfold moved
  pointwise []
  simp only [Finset.lt_fold_max, bottom, false_or, Finset.mem_univ, true_and]
  by_cases h : p = q
  · subst h; simp
  · rw [if_neg h]
    obtain ⟨x, hx⟩ := Function.ne_iff.1 h
    have h1 : ind1 p (ix2 0 x) ≠ ind1 q (ix2 0 x) := by
      simp only [ind1_apply]
      by_cases hp : p x <;> by_cases hq : q x <;> simp_all
    have : ∃ y : Fin 1 × Fin 256, (0 : EReal) < if ind1 p (ix2 0 y.2) ≠ ind1 q (ix2 0 y.2) then 1 else 0 :=
      ⟨(0, x), by rw [if_pos h1]; exact zero_lt_one⟩
    rw [decide_eq_true this]; rfl

/-- What a block settles at: the one set that holds of `j` when `q` does and no earlier member covers it. -/
structure Settled (q : Fin 256 → Prop) (s : Fin 256 → Fin 256 → Prop) (g : Fin 256 → Prop) : Prop where
  upper : ∀ i j, s i j → i < j
  eq : ∀ j, g j ↔ q j ∧ ¬ ∃ i, g i ∧ s i j

variable {q g : Fin 256 → Prop} {s : Fin 256 → Fin 256 → Prop}

/-- A set agreeing with it below `m` agrees below `m + 1` after a step. -/
theorem Settled.step (h : Settled q s g) {p : Fin 256 → Prop} {m : ℕ} (hp : ∀ j, j.val < m → (p j ↔ g j)) :
    ∀ j, j.val < m + 1 → ((q j ∧ ¬ ∃ i, p i ∧ s i j) ↔ g j) := by
  intro j hj
  rw [h.eq j]
  refine and_congr_right fun _ => not_congr (exists_congr fun i => and_congr_left fun hs => hp i ?_)
  have := h.upper i j hs
  have : i.val < j.val := this
  omega

/-- A set a step leaves is it. -/
theorem Settled.fixed (h : Settled q s g) {p : Fin 256 → Prop} (hp : (fun j => q j ∧ ¬ ∃ i, p i ∧ s i j) = p) : p = g := by
  have : ∀ m : ℕ, ∀ j : Fin 256, j.val < m → (p j ↔ g j) := by
    intro m
    induction m with
    | zero => intro j hj; omega
    | succ m ih =>
      intro j hj
      have := h.step ih j hj
      rw [← this, ← congrFun hp j]
  exact funext fun j => propext (this 256 j j.isLt)
end Cert.Sweep
end
-- ==== Proof.SweepLoop.lean ====
module
public import proofs.«01_k».proof.Proof.Settle
public import proofs.«01_k».proof.Proof.Gen.SelectIdeal
public import proofs.«01_k».proof.Proof.Gen.SelectIdeal.Launch
public import proofs.«01_k».proof.Proof.Gen.SelectIdeal.Points
@[expose] public section
set_option maxRecDepth 65536
noncomputable section
/-! The 21 loops end, and at the settled set. -/
namespace Cert.Sweep
open Cert.SelectIdeal Cert.SelectIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

/-- The ghost algebra of the one pipeline. -/
abbrev UR : Type := URounds (GSem nD τ sig) Unit
local notation "𝕄" => MT nD τ sig Unit (Elt Ideal) ℕ UR ℕ

/-- The variants: the calls a loop has still to make, at most. -/
abbrev 𝒱₀ : Variants := Variants.nat

/-- One run of a block's loop body. -/
theorem loopAt_eq (b : Fin 21) (s : FVec Ideal S256x256 .f32) (k a : FVec Ideal S1x256 .f32) (f : BitVec 1) :
    loopAt b s k a f = if f = 1#1 then callAt b s k (less a s k) (moved (less a s k) a) else pure (a, f) := by
  fin_cases b <;> chain_rfl

/-- What a loop returns: the set `g`, settled. -/
def settledAt (g : Fin 256 → Prop) : sWPT 𝕄 (FVec Ideal S1x256 .f32 × BitVec 1) := pure (ind1 g, 0#1)

theorem settledAt_apply (g : Fin 256 → Prop) (K : FVec Ideal S1x256 .f32 × BitVec 1 → sProp 𝕄) :
    settledAt g K = K (ind1 g, 0#1) := rfl

/-- A call is answered by what its body does at a smaller variant. -/
theorem wp_callAt (c : Dev nD) (E : Set ℕ) (bd : Option ℕ) (b : Fin 21) (s : FVec Ideal S256x256 .f32)
    (k a : FVec Ideal S1x256 .f32) (f : BitVec 1) (g : Fin 256 → Prop) (v : ℕ) (hv : ∀ u ∈ bd, v < u)
    (hS : ∀ K, settledAt g K ⊢ wp frame (wpE (defs₀ (F := Ideal)) 𝒱₀ (c : Thread nD τ) (some v)) E (loopAt b s k a f) K)
    {α : Type} (j : FVec Ideal S1x256 .f32 × BitVec 1 → Prog (TpuEff nD τ sig (Elt Ideal) (Λ₀ Ideal) .tc) α) (K : α → sProp 𝕄) :
    wp frame (wpE (defs₀ (F := Ideal)) 𝒱₀ (c : Thread nD τ) bd) E (j (ind1 g, 0#1)) K
      ⊢ wp frame (wpE (defs₀ (F := Ideal)) 𝒱₀ (c : Thread nD τ) bd) E (callAt b s k a f >>= j) K := by
  fin_cases b <;>
    (refine BIBase.Entails.trans ?a (wp_call_spec (defs := defs₀ (F := Ideal)) 𝒱₀ (c : Thread nD τ) bd E ?S v hv ?h)
     case S => exact settledAt g
     case a => exact Laws.entails_refl _
     case h => exact hS)

/-- A loop's body, entered with at most `n` calls to go at a set that agrees with `g` below `m`. -/
theorem loop_le (c : Dev nD) (E : Set ℕ) (b : Fin 21) {q g : Fin 256 → Prop} {s : Fin 256 → Fin 256 → Prop}
    (h : Settled q s g) : ∀ (n m : ℕ) (p : Fin 256 → Prop) (f : BitVec 1),
      (f = 1#1 → m ≤ 256 ∧ 257 ≤ m + n ∧ ∀ j, j.val < m → (p j ↔ g j)) → (f ≠ 1#1 → f = 0#1 ∧ p = g) →
      ∀ K, settledAt g K ⊢ wp frame (wpE (defs₀ (F := Ideal)) 𝒱₀ (c : Thread nD τ) (some n)) E
        (loopAt b (ind2 s) (ind1 q) (ind1 p) f) K := by
  intro n
  induction n with
  | zero =>
    intro m p f h1 h0 K
    have hf : f ≠ 1#1 := fun hf => by obtain ⟨h2, h3, -⟩ := h1 hf; omega
    obtain ⟨rfl, rfl⟩ := h0 hf
    rw [settledAt_apply, loopAt_eq, if_neg (by decide)]
    iintro Hk
    rw [Prog.pure_eq_ret, wp_ret]; imodintro
    iexact Hk
  | succ n ih =>
    intro m p f h1 h0 K
    by_cases hf : f = 1#1
    · subst hf
      obtain ⟨h2, h3, h4⟩ := h1 rfl
      rw [settledAt_apply, loopAt_eq, if_pos rfl, less_ind, moved_ind]
      have key := ih (m + 1) (fun j => q j ∧ ¬ ∃ i, p i ∧ s i j)
        (if (fun j => q j ∧ ¬ ∃ i, p i ∧ s i j) = p then 0#1 else 1#1)
        (fun hm => by
          have hne : (fun j => q j ∧ ¬ ∃ i, p i ∧ s i j) ≠ p := fun he => by rw [if_pos he] at hm; exact absurd hm (by decide)
          refine ⟨?_, by omega, h.step h4⟩
          by_contra hm'
          refine hne (funext fun j => propext ?_)
          have := h.step h4 j (by have := j.isLt; omega)
          rw [this, h4 j (by have := j.isLt; omega)])
        (fun hm => by
          have he : (fun j => q j ∧ ¬ ∃ i, p i ∧ s i j) = p := by
            by_contra hne; rw [if_neg hne] at hm; exact hm rfl
          rw [if_pos he]
          exact ⟨rfl, he.trans (h.fixed he)⟩)
      have := wp_callAt c E (some (n + 1)) b (ind2 s) (ind1 q) _ _ g n
        (fun u hu => by cases hu; exact Nat.lt_succ_self n) key (fun x => pure x) K
      rw [bind_pure] at this
      refine BIBase.Entails.trans ?_ this
      iintro Hk
      rw [Prog.pure_eq_ret, wp_ret]; imodintro
      iexact Hk
    · obtain ⟨rfl, rfl⟩ := h0 hf
      rw [settledAt_apply, loopAt_eq, if_neg (by decide)]
      iintro Hk
      rw [Prog.pure_eq_ret, wp_ret]; imodintro
      iexact Hk

/-- The loop of a block, entered from its row, returns the settled set. -/
theorem wp_settle (c : Dev nD) (E : Set ℕ) (b : Fin 21) {q g : Fin 256 → Prop} {s : Fin 256 → Fin 256 → Prop}
    (h : Settled q s g) {α : Type}
    (j : FVec Ideal S1x256 .f32 × BitVec 1 → Prog (TpuEff nD τ sig (Elt Ideal) (Λ₀ Ideal) .tc) α) (K : α → sProp 𝕄) :
    wp frame (wpE (defs₀ (F := Ideal)) 𝒱₀ (c : Thread nD τ) none) E (j (ind1 g, 0#1)) K
      ⊢ wp frame (wpE (defs₀ (F := Ideal)) 𝒱₀ (c : Thread nD τ) none) E (settle b (ind2 s) (ind1 q) >>= j) K :=
  wp_callAt c E none b (ind2 s) (ind1 q) _ _ g 257 (fun u hu => nomatch hu)
    (loop_le c E b h 257 0 q 1#1 (fun _ => ⟨by omega, by omega, fun j hj => by omega⟩) (fun hf => absurd rfl hf)) j K
end Cert.Sweep
end
-- ==== Proof.Rank.lean ====
module
public import proofs.«01_k».proof.Proof.Settle
public import Idealize.ShloMosaic.Lib.Routing.OneHot
public import Idealize.ShloMosaic.Lib.Pipeline.Value
@[expose] public section
set_option maxRecDepth 65536
noncomputable section
/-! The ranking at the exact values: which slot a kept candidate takes. -/
namespace Cert.Sweep
open Idealize Idealize.ShloMosaic Cert.SelectIdeal
open scoped Classical
variable [Cert.SelectIdeal.Facts]

/-- The row over all candidates that is one where `P` holds. -/
def indAll (P : ℕ → Prop) : FVec Ideal S1x5376 .f32 := fun i => if P (i 1).val then 1 else 0

theorem indAll_apply (P : ℕ → Prop) (u : Fin 1) (v : Fin 5376) : indAll P (ix2 u v) = if P v.val then 1 else 0 := rfl

theorem concat_ind (P : ℕ → Prop) :
    concatBlocks (F := Ideal) (fun b => ind1 fun t => P (256 * b.val + t.val)) = indAll P := by
  funext i
  obtain ⟨u, v, rfl⟩ : ∃ u v, i = ix2 u v := ⟨_, _, eq_ix2 i⟩
  have h := v.isLt
  unfold concatBlocks
  refine (concatenate_ofFn_apply (t := S1x5376) (s₁ := S1x256) 1 _ _ rfl 256 rfl (ix2 u v) ⟨v.val / 256, by omega⟩ rfl
    (ix2 u ⟨v.val % 256, by omega⟩) rfl ?_).trans ?_
  · intro b hb; fin_cases b
    · rfl
    · exact absurd rfl hb
  · rw [ind1_apply, indAll_apply]
    simp only [Nat.div_add_mod]

/-- How many of a run of zeros and ones up to a place are ones. -/
theorem sum_count {n : ℕ} (P : ℕ → Prop) [DecidablePred P] :
    (∑ x : Fin n, (if P x.val then (1 : EReal) else 0)) = ((Nat.count P n : ℕ) : EReal) := by
  rw [Finset.sum_boole, ← Routing.card_filter_fin]

theorem count_le (P : ℕ → Prop) [DecidablePred P] {l n : ℕ} (h : l < n) :
    Nat.count (fun m => P m ∧ m ≤ l) n = Nat.count P (l + 1) := by
  induction n with
  | zero => omega
  | succ n ih =>
    rcases Nat.lt_or_ge l n with h1 | h1
    · rw [Nat.count_succ, ih h1, if_neg (by omega), Nat.add_zero]
    · obtain rfl : l = n := by omega
      exact Routing.count_congr_of_lt _ fun i hi => ⟨fun h => h.1, fun h => ⟨h, by omega⟩⟩

theorem toInt_small {n : ℕ} (h : n < 2 ^ 31) : (BitVec.ofNat 32 n).toInt = n := by
  rw [BitVec.toInt_eq_toNat_of_lt (by rw [BitVec.toNat_ofNat]; omega), BitVec.toNat_ofNat]
  congr 1; omega

theorem slt_small {m n : ℕ} (hm : m < 2 ^ 31) (hn : n < 2 ^ 31) :
    IntOp.cmpi .slt (BitVec.ofNat 32 m) (BitVec.ofNat 32 n) = BitVec.ofBool (decide (m < n)) := by
  show BitVec.ofBool (BitVec.slt _ _) = _
  rw [BitVec.slt, toInt_small hm, toInt_small hn]
  simp

theorem sle_small {m n : ℕ} (hm : m < 2 ^ 31) (hn : n < 2 ^ 31) :
    IntOp.cmpi .sle (BitVec.ofNat 32 m) (BitVec.ofNat 32 n) = BitVec.ofBool (decide (m ≤ n)) := by
  show BitVec.ofBool (BitVec.sle _ _) = _
  rw [BitVec.sle, toInt_small hm, toInt_small hn]
  simp

theorem sitofp_bit (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

theorem sitofp_small {n : ℕ} (h : n < 2 ^ 31) : FloatOps.sitofp (F := Ideal) .f32 (BitVec.ofNat 32 n) = ((n : ℕ) : EReal) := by
  show (((BitVec.ofNat 32 n).toInt : ℝ) : EReal) = _
  rw [toInt_small h]; simp

theorem select_bit {α : Type} (p : Prop) [Decidable p] (a b : α) :
    Scalar.select (BitVec.ofBool (decide p)) a b = if p then a else b := by
  by_cases h : p <;> simp [h, Scalar.select]

theorem andi_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem chunk_apply (P : ℕ → Prop) (c : Fin 42) (u : Fin 1) (m : Fin 128) :
    chunk (indAll P) c (ix2 u m) = if P (128 * c.val + m.val) then 1 else 0 := by
  unfold chunk
  pointwise []
  rfl

theorem tri_apply (m l : Fin 128) : tri (F := Ideal) (ix2 m l) = if m.val ≤ l.val then 1 else 0 := by
  unfold tri
  pointwise []
  rw [sle_small (by omega) (by omega), sitofp_bit]

theorem within_apply (P : ℕ → Prop) (c : Fin 42) (u : Fin 1) (l : Fin 128) :
    within (indAll P) c (ix2 u l) = ((Nat.count (fun m => P (128 * c.val + m)) (l.val + 1) : ℕ) : EReal) := by
  unfold within
  pointwise []
  simp only [chunk_apply, tri_apply, one_mul_one]
  rw [← count_le _ l.isLt]
  refine Eq.trans ?_ (sum_count (n := 128) fun m => P (128 * c.val + m) ∧ m ≤ l.val)
  refine Finset.sum_congr rfl fun x _ => ?_
  by_cases h : P (128 * c.val + x.val) <;> simp [h]

theorem totals_apply (P : ℕ → Prop) (u : Fin 1) (c : Fin 42) :
    totals (indAll P) (ix2 u c) = ((Nat.count (fun m => P (128 * c.val + m)) 128 : ℕ) : EReal) := by
  unfold totals
  refine (concatenate_ofFn_unit_apply (t := S1x42) (s₁ := S1x1) 1 _ _ rfl rfl (ix2 u c) c rfl (ix2 u 0) ?_).trans ?_
  · intro b hb; fin_cases b
    · rfl
    · exact absurd rfl hb
  · pointwise []
    exact within_apply P c u 127

theorem sum_before (f : ℕ → ℕ) (n c : ℕ) (h : c ≤ n) :
    (∑ x : Fin n, ((f x.val : ℕ) : EReal) * if x.val < c then 1 else 0) = ((∑ x ∈ Finset.range c, f x : ℕ) : EReal) := by
  rw [Fin.sum_univ_eq_sum_range (fun x => ((f x : ℕ) : EReal) * if x < c then 1 else 0) n]
  obtain ⟨k, rfl⟩ := Nat.exists_eq_add_of_le h
  rw [Finset.sum_range_add, Finset.sum_eq_zero (s := Finset.range k), add_zero]
  · rw [Nat.cast_sum]
    exact Finset.sum_congr rfl fun x hx => by rw [if_pos (Finset.mem_range.1 hx), mul_one]
  · intro x _; rw [if_neg (by omega), mul_zero]

theorem count_chunks (P : ℕ → Prop) [DecidablePred P] (w c : ℕ) :
    (∑ x ∈ Finset.range c, Nat.count (fun m => P (w * x + m)) w) = Nat.count P (w * c) := by
  induction c with
  | zero => simp
  | succ c ih => rw [Finset.sum_range_succ, ih, Nat.mul_succ, Nat.count_add]

theorem before_apply (P : ℕ → Prop) (u : Fin 1) (c : Fin 42) :
    before (indAll P) (ix2 u c) = ((Nat.count P (128 * c.val) : ℕ) : EReal) := by
  unfold before
  pointwise []
  have h : ∀ x : Fin 42, IntOp.cmpi .slt (BitVec.ofNat 32 x.val) (BitVec.ofNat 32 c.val) = BitVec.ofBool (decide (x.val < c.val)) :=
    fun x => slt_small (by omega) (by omega)
  simp only [totals_apply, h, sitofp_bit]
  rw [sum_before (fun x => Nat.count (fun m => P (128 * x + m)) 128) 42 c.val (by omega)]
  exact congrArg _ ((Finset.sum_congr rfl fun x _ => by congr).trans (count_chunks P 128 c.val))

theorem rank_eq (a b s : ℕ) (h : a = b + 1) : ((a : ℕ) : EReal) - 1 = ((s : ℕ) : EReal) ↔ b = s := by
  subst h
  have : (((b + 1 : ℕ) : EReal) - 1) = ((b : ℕ) : EReal) := by
    rw [← EReal.coe_coe_eq_natCast, ← EReal.coe_coe_eq_natCast, ← EReal.coe_one, ← EReal.coe_sub]; simp
  rw [this]; exact Nat.cast_inj

theorem hit_apply (P : ℕ → Prop) (s : Fin 320) (c : Fin 42) (l : Fin 128) :
    hit (indAll P) c (ix2 s l) = if P (128 * c.val + l.val) ∧ Nat.count P (128 * c.val + l.val) = s.val ∧ s.val < 300 then 1 else 0 := by
  unfold hit slot
  pointwise []
  simp only [within_apply, before_apply, chunk_apply]
  rw [sitofp_small (by omega), slt_small (n := 300) (by omega) (by omega), andi_bit, andi_bit, select_bit]
  refine if_congr ?_ rfl rfl
  by_cases hP : P (128 * c.val + l.val)
  · rw [if_pos hP, ← Nat.cast_add, rank_eq _ (Nat.count P (128 * c.val + l.val)) _ (by
      rw [Nat.count_succ, if_pos hP, Nat.count_add]; omega)]
    simp [hP]
  · simp [hP]

theorem hits_apply (P : ℕ → Prop) (s : Fin 320) (x : Fin 5376) :
    hits (indAll P) (ix2 s x) = if P x.val ∧ Nat.count P x.val = s.val ∧ s.val < 300 then 1 else 0 := by
  have h := x.isLt
  unfold hits
  refine (concatenate_ofFn_apply (t := S320x5376) (s₁ := S320x128) 1 _ _ rfl 128 rfl (ix2 s x) ⟨x.val / 128, by omega⟩ rfl
    (ix2 s ⟨x.val % 128, by omega⟩) rfl ?_).trans ?_
  · intro b hb; fin_cases b
    · rfl
    · exact absurd rfl hb
  · rw [hit_apply]
    simp only [Nat.div_add_mod]
end Cert.Sweep
end
-- ==== Proof.Suppress.lean ====
module
public import proofs.«01_k».proof.Proof.Rank
@[expose] public section
set_option maxRecDepth 65536
noncomputable section
/-! Which candidate suppresses which, which are kept, and the kernel's tiles, rows and blocks in these terms. -/
namespace Cert.Sweep
open Idealize Idealize.ShloMosaic Idealize.SL.Sem Cert.SelectIdeal
open scoped Classical
variable [Cert.SelectIdeal.Facts]
open Facts₀ Facts

/-- The length two intervals share. -/
def side (a b a' b' : EReal) : EReal := max (min b b' - max a a') 0

variable (X : FVec Ideal S5376x40 .f32)

def area (i : Fin 5376) : EReal := (X (ix2 i 2) - X (ix2 i 0)) * (X (ix2 i 3) - X (ix2 i 1))

/-- The area two candidates share. -/
def shared (i j : Fin 5376) : EReal :=
  side (X (ix2 i 0)) (X (ix2 i 2)) (X (ix2 j 0)) (X (ix2 j 2)) * side (X (ix2 i 1)) (X (ix2 i 3)) (X (ix2 j 1)) (X (ix2 j 3))

/-- The area two candidates cover together, and the small constant. -/
def joint (i j : Fin 5376) : EReal := area X i + area X j - shared X i j + Ideal.ofBits FTy.f32 0x3089705F

def sup (i j : Fin 5376) : Prop :=
  joint X i j * Ideal.ofBits FTy.f32 0x34000000
    < ((25165825 / 6291456 : ℝ) : EReal) * shared X i j - Ideal.ofBits FTy.f32 0x40000000 * joint X i j - joint X i j

def enters (j : Fin 5376) : Prop := Ideal.ofBits FTy.f32 0x3E800000 ≤ X (ix2 j 4)

/-- A candidate is kept when it scores enough and no kept earlier one suppresses it. -/
def kept (j : Fin 5376) : Prop := enters X j ∧ ∀ i : Fin 5376, (h : i < j) → kept i → ¬ sup X i j
termination_by j.val

theorem kept_iff (j : Fin 5376) : kept X j ↔ enters X j ∧ ∀ i : Fin 5376, i < j → kept X i → ¬ sup X i j := by
  rw [kept]

/-- Not suppressed by a kept one among the first `n`. -/
def alive (n : ℕ) (x : Fin 5376) : Prop := enters X x ∧ ¬ ∃ i : Fin 5376, i.val < n ∧ i < x ∧ kept X i ∧ sup X i x

theorem alive_zero (x : Fin 5376) : alive X 0 x ↔ enters X x := by simp [alive]

theorem alive_kept {n : ℕ} {x : Fin 5376} (h : x.val ≤ n) : alive X n x ↔ kept X x := by
  rw [kept_iff, alive]
  refine and_congr_right fun _ => ⟨fun h1 i hi hk hs => h1 ⟨i, by omega, hi, hk, hs⟩, fun h1 ⟨i, _, hi, hk, hs⟩ => h1 i hi hk hs⟩

/-- Candidate `s` of block `b`. -/
def idx (b : Fin 21) (s : Fin 256) : Fin 5376 := ⟨256 * b.val + s.val, by omega⟩

theorem alive_settled (b : Fin 21) :
    Settled (fun t => alive X (256 * b.val) (idx b t)) (fun s t => sup X (idx b s) (idx b t) ∧ s < t) (fun t => kept X (idx b t)) where
  upper _ _ h := h.2
  eq t := by
    rw [← alive_kept X (le_refl (idx b t).val), alive, alive, and_assoc, ← not_or]
    refine and_congr_right fun _ => not_congr ⟨?_, ?_⟩
    · rintro ⟨i, h1, h2, hk, hs⟩
      by_cases h : i.val < 256 * b.val
      · exact .inl ⟨i, h, h2, hk, hs⟩
      · have h3 : i.val < 256 * b.val + t.val := h1
        have hi : idx b ⟨i.val - 256 * b.val, by omega⟩ = i := Fin.ext (by show 256 * b.val + (i.val - 256 * b.val) = _; omega)
        exact .inr ⟨⟨i.val - 256 * b.val, by omega⟩, by rwa [hi], by rwa [hi], by show i.val - 256 * b.val < t.val; omega⟩
    · rintro (⟨i, h1, h2, hk, hs⟩ | ⟨s, hk, hs, hst⟩)
      · exact ⟨i, h2, h2, hk, hs⟩
      · have : (idx b s).val < (idx b t).val := by show 256 * b.val + s.val < 256 * b.val + t.val; have : s.val < t.val := hst; omega
        exact ⟨_, this, this, hk, hs⟩

theorem alive_later {b j : Fin 21} (h : b.val < j.val) (t : Fin 256) :
    alive X (256 * (b.val + 1)) (idx j t) ↔ alive X (256 * b.val) (idx j t) ∧ ¬ ∃ s, kept X (idx b s) ∧ sup X (idx b s) (idx j t) := by
  rw [alive, alive, and_assoc, ← not_or]
  refine and_congr_right fun _ => not_congr ⟨?_, ?_⟩
  · rintro ⟨i, h1, h2, hk, hs⟩
    by_cases h : i.val < 256 * b.val
    · exact .inl ⟨i, h, h2, hk, hs⟩
    · have hi : idx b ⟨i.val - 256 * b.val, by omega⟩ = i := Fin.ext (by show 256 * b.val + (i.val - 256 * b.val) = _; omega)
      exact .inr ⟨⟨i.val - 256 * b.val, by omega⟩, by rwa [hi], by rwa [hi]⟩
  · rintro (⟨i, h1, h2, hk, hs⟩ | ⟨s, hk, hs⟩)
    · exact ⟨i, by omega, h2, hk, hs⟩
    · refine ⟨_, ?_, ?_, hk, hs⟩
      · show 256 * b.val + s.val < _; have := s.isLt; omega
      · show 256 * b.val + s.val < 256 * j.val + t.val; have := s.isLt; omega

/-! ### The kernel's tiles -/

theorem rowOf_apply (w : FVec Ideal S5376x8 .f32) (d : Fin 5) (u : Fin 1) (x : Fin 5376) :
    rowOf w d (ix2 u x) = w (ix2 x ⟨d.val, by omega⟩) := by
  obtain rfl : u = 0 := Subsingleton.elim _ _
  fin_cases d <;> (unfold rowOf; pointwise [])

theorem block_apply (r : FVec Ideal S1x5376 .f32) (b : Fin 21) (u : Fin 1) (t : Fin 256) : block r b (ix2 u t) = r (ix2 0 (idx b t)) := by
  unfold block
  pointwise []
  rfl

theorem start_ind {w : FVec Ideal S5376x8 .f32} (hw : ∀ i d, w (ix2 i d) = X (ix2 i ⟨d.val, by omega⟩)) (b : Fin 21) :
    start w b = ind1 fun t => alive X 0 (idx b t) := by
  funext j
  obtain ⟨u, t, rfl⟩ : ∃ u t, j = ix2 u t := ⟨_, _, eq_ix2 j⟩
  unfold start
  pointwise []
  rw [sitofp_bit, block_apply, rowOf_apply, hw, ind1_apply]
  exact if_congr (alive_zero X _).symm rfl rfl

theorem tile_ind {w : FVec Ideal S5376x8 .f32} (hw : ∀ i d, w (ix2 i d) = X (ix2 i ⟨d.val, by omega⟩))
    {b : Fin 21} {v : FVec Ideal S256x4 .f32} (hv : ∀ s d, v (ix2 s d) = X (ix2 (idx b s) ⟨d.val, by omega⟩)) (j : Fin 21) :
    tile (cols v) (rows w) j = ind2 fun s t => sup X (idx b s) (idx j t) := by
  funext k
  obtain ⟨s, t, rfl⟩ : ∃ s t, k = ix2 s t := ⟨_, _, eq_ix2 k⟩
  unfold tile union inter down across splat four
  pointwise []
  rw [sitofp_bit, ind2_apply]
  refine if_congr ?_ rfl rfl
  have hc : ∀ s, (cols v).y1 (ix2 s 0) = X (ix2 (idx b s) 0) ∧ (cols v).x1 (ix2 s 0) = X (ix2 (idx b s) 1)
      ∧ (cols v).y2 (ix2 s 0) = X (ix2 (idx b s) 2) ∧ (cols v).x2 (ix2 s 0) = X (ix2 (idx b s) 3) := fun s => by
    unfold cols
    refine ⟨?_, ?_, ?_, ?_⟩ <;> (pointwise []; exact hv s _)
  have ha : (cols v).ar (ix2 s 0) = area X (idx b s) := by
    show ((cols v).y2 (ix2 s 0) - (cols v).y1 (ix2 s 0)) * ((cols v).x2 (ix2 s 0) - (cols v).x1 (ix2 s 0)) = _
    obtain ⟨h1, h2, h3, h4⟩ := hc s
    rw [h1, h2, h3, h4]; rfl
  have hb : block (rows w).ar j (ix2 0 t) = area X (idx j t) := by
    rw [block_apply]
    show (rowOf w 2 _ - rowOf w 0 _) * (rowOf w 3 _ - rowOf w 1 _) = _
    simp only [rowOf_apply, hw]; rfl
  obtain ⟨h1, h2, h3, h4⟩ := hc s
  rw [h1, h2, h3, h4, ha, hb]
  simp only [block_apply, rows, rowOf_apply, hw]
  rfl

theorem mulf_ind (p q : Fin 256 → Fin 256 → Prop) : mulf (F := Ideal) (ind2 p) (ind2 q) = ind2 fun s t => p s t ∧ q s t := by
  funext k
  obtain ⟨s, t, rfl⟩ : ∃ s t, k = ix2 s t := ⟨_, _, eq_ix2 k⟩
  show ind2 p (ix2 s t) * ind2 q (ix2 s t) = _
  rw [ind2_apply, ind2_apply, ind2_apply]
  by_cases hp : p s t <;> by_cases hq : q s t <;> simp [hp, hq]

theorem upper_ind : upper (F := Ideal) = ind2 fun s t => s < t := by
  funext k
  obtain ⟨s, t, rfl⟩ : ∃ s t, k = ix2 s t := ⟨_, _, eq_ix2 k⟩
  unfold upper
  pointwise []
  rw [slt_small (by omega) (by omega), sitofp_bit, ind2_apply]
  by_cases h : s < t <;> simp [h, Fin.lt_def.1]
end Cert.Sweep
end
-- ==== Proof.SweepRun.lean ====
module
public import proofs.«01_k».proof.Proof.SweepLoop
public import proofs.«01_k».proof.Proof.Suppress
public import Idealize.ShloMosaic.Lib.Pipeline.KitQuiescent
@[expose] public section
set_option maxRecDepth 65536
noncomputable section
/-! The sweep over the 21 blocks keeps the kept candidates, and the kernel stores their first 300 rows. -/
namespace Cert.Sweep
open Cert.SelectIdeal Cert.SelectIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)
open scoped Classical

/-- The resources the kernel is run over. -/
abbrev MM : Type := MT nD τ sig Unit (Elt Ideal) ℕ UR ℕ

abbrev rowsMem : Memref sig .tc .vmem S5376x40 .f32 := Memref.whole cc0_stg0_0
abbrev outMem : Memref sig .tc .vmem S320x40 .f32 := Memref.whole cc0_stg1_0

variable (X : FVec Ideal S5376x40 .f32)

theorem read_block (b : Fin 21) (s : Fin 256) (d : Fin 4) :
    (rowsMem.access (Rect.unit (s := S5376x40) ![256 * b.val, 0] S256x4.size (inbBlock b))).read (Elt Ideal) X (ix2 s d)
      = X (ix2 (idx b s) ⟨d.val, by omega⟩) := by
  refine congrArg X (funext fun a => Fin.ext ?_)
  fin_cases a
  · show 256 * b.val + 1 * s.val = 256 * b.val + s.val; omega
  · show 0 + 1 * d.val = d.val; omega

theorem read_first (i : Fin 5376) (d : Fin 8) :
    (rowsMem.access (Rect.unit (s := S5376x40) ![0, 0] S5376x8.size Facts₀.inb_S5376x40_S5376x8_0_0)).read (Elt Ideal) X (ix2 i d)
      = X (ix2 i ⟨d.val, by omega⟩) := by
  refine congrArg X (funext fun a => Fin.ext ?_)
  fin_cases a
  · show 0 + 1 * i.val = i.val; omega
  · show 0 + 1 * d.val = d.val; omega

theorem ind1_congr {p q : Fin 256 → Prop} (h : ∀ t, p t ↔ q t) : ind1 p = ind1 q := by
  rw [funext fun t => propext (h t)]

/-- One block's step: the block's own set settled, the later blocks less what it suppresses. -/
theorem after_ind {w : FVec Ideal S5376x8 .f32} (hw : ∀ i d, w (ix2 i d) = X (ix2 i ⟨d.val, by omega⟩))
    (b : Fin 21) {v : FVec Ideal S256x4 .f32} (hv : ∀ s d, v (ix2 s d) = X (ix2 (idx b s) ⟨d.val, by omega⟩))
    (k : Fin 21 → FVec Ideal S1x256 .f32) (hk : ∀ j, k j = ind1 fun t => alive X (256 * b.val) (idx j t)) (j : Fin 21) :
    after b (cols v) (rows w) (ind1 fun t => kept X (idx b t)) k j = ind1 fun t => alive X (256 * (b.val + 1)) (idx j t) := by
  unfold after
  by_cases h1 : j.val < b.val
  · rw [if_pos h1, hk]
    refine ind1_congr fun t => ?_
    have : (idx j t).val ≤ 256 * b.val := by show 256 * j.val + t.val ≤ _; have := t.isLt; omega
    rw [alive_kept X this, alive_kept X (by omega)]
  · rw [if_neg h1]
    by_cases h2 : j.val = b.val
    · obtain rfl := Fin.ext h2
      rw [if_pos rfl]
      refine ind1_congr fun t => ?_
      rw [alive_kept X (by show 256 * j.val + t.val ≤ _; have := t.isLt; omega)]
    · rw [if_neg h2, tile_ind X hw hv, hk, less_ind]
      exact ind1_congr fun t => (alive_later X (by omega) t).symm

abbrev ptsX (c : Dev nD) (X : Buf (Elt Ideal) ((c : Thread nD τ).loc cc0_stg0_0)) : sProp MM :=
  iprop(((c : Thread nD τ).loc cc0_stg0_0) ↦{fullShare} X)

theorem load_rows (c : Dev nD) (f : Buf (Elt Ideal) ((c : Thread nD τ).loc cc0_stg0_0)) (r : Rect S5376x40)
    (hl : rowsMem.view.LoadsAt r.toLoadRect) {α : Type}
    (k : (r.shape.Idx → Elt Ideal .f32) → Prog (TpuEff nD τ sig (Elt Ideal) (Λ₀ Ideal) .tc) α) (K : α → sProp MM) :
    iprop(ptsX c f ∗ (ptsX c f -∗ wp frame (wpE (defs₀ (F := Ideal)) 𝒱₀ (c : Thread nD τ) none) Set.univ
        (k ((rowsMem.access r).read (Elt Ideal) f)) K))
      ⊢ wp frame (wpE (defs₀ (F := Ideal)) 𝒱₀ (c : Thread nD τ) none) Set.univ (.op (.load rowsMem r.toLoadRect hl) k) K := by
  unfold ptsX
  iintro ⟨H, Hk⟩
  iapply (wp_load_rect 𝒱₀ (c : Thread nD τ) none Set.univ (m := Memref.whole cc0_stg0_0) (r := r) (Finset.subset_univ _)) $$ H; iintro H
  iapply Hk
  iexact H
theorem wp_step (c : Dev nD) {w : FVec Ideal S5376x8 .f32} (hw : ∀ i d, w (ix2 i d) = X (ix2 i ⟨d.val, by omega⟩))
    (b : Fin 21) {v : FVec Ideal S256x4 .f32} (hv : ∀ s d, v (ix2 s d) = X (ix2 (idx b s) ⟨d.val, by omega⟩))
    (k : Fin 21 → FVec Ideal S1x256 .f32) (hk : ∀ j, k j = ind1 fun t => alive X (256 * b.val) (idx j t)) {α : Type}
    (J : FVec Ideal S1x256 .f32 → Prog (TpuEff nD τ sig (Elt Ideal) (Λ₀ Ideal) .tc) α) (K : α → sProp MM) :
    wp frame (wpE (defs₀ (F := Ideal)) 𝒱₀ (c : Thread nD τ) none) Set.univ (J (ind1 fun t => kept X (idx b t))) K
      ⊢ wp frame (wpE (defs₀ (F := Ideal)) 𝒱₀ (c : Thread nD τ) none) Set.univ
        (settle b (mulf (tile (cols v) (rows w) b) upper) (k b) >>= fun p => J p.1) K := by
  rw [hk, tile_ind X hw hv, upper_ind, mulf_ind]
  exact wp_settle c Set.univ b (alive_settled X b) (fun p => J p.1) K

theorem wp_sweep (c : Dev nD) (f : Buf (Elt Ideal) ((c : Thread nD τ).loc cc0_stg0_0)) (hf : f = X) {w : FVec Ideal S5376x8 .f32} (hw : ∀ i d, w (ix2 i d) = X (ix2 i ⟨d.val, by omega⟩)) :
    ∀ (n b : ℕ) (h : b + n = 21) (k : Fin 21 → FVec Ideal S1x256 .f32)
      (_ : ∀ j, k j = ind1 fun t => alive X (256 * b) (idx j t)) {α : Type}
      (J : (Fin 21 → FVec Ideal S1x256 .f32) → Prog (TpuEff nD τ sig (Elt Ideal) (Λ₀ Ideal) .tc) α) (K : α → sProp MM),
    iprop(ptsX c f ∗ (ptsX c f -∗ wp frame (wpE (defs₀ (F := Ideal)) 𝒱₀ (c : Thread nD τ) none) Set.univ
        (J fun b => ind1 fun t => kept X (idx b t)) K))
      ⊢ wp frame (wpE (defs₀ (F := Ideal)) 𝒱₀ (c : Thread nD τ) none) Set.univ (sweep rowsMem (rows w) n b h k >>= J) K := by
  intro n
  induction n with
  | zero =>
    intro b h k hk α J K
    obtain rfl : b = 21 := by omega
    have : k = fun b => ind1 fun t => kept X (idx b t) := funext fun j => (hk j).trans (ind1_congr fun t =>
      alive_kept X (by have := (idx j t).isLt; omega))
    simp only [sweep, Prog.pure_eq_ret, Prog.bind_ret, this]
    iintro ⟨H, Hk⟩
    iapply Hk; iexact H
  | succ n ih =>
    intro b h k hk α J K
    have hb : b < 21 := by omega
    have hv : ∀ s d, (rowsMem.access (Rect.unit (s := S5376x40) ![256 * b, 0] S256x4.size (inbBlock ⟨b, hb⟩))).read (Elt Ideal) f
        (ix2 s d) = X (ix2 (idx ⟨b, hb⟩ s) ⟨d.val, by omega⟩) := by rw [hf]; exact read_block X ⟨b, hb⟩
    simp only [sweep, Prog.lift, Prog.bind_op, Prog.bind_ret]
    refine BIBase.Entails.trans ?_ (load_rows c f (Rect.unit (s := S5376x40) ![256 * b, 0] S256x4.size (inbBlock ⟨b, by omega⟩)) _ _ K)
    iintro ⟨H, Hk⟩
    isplitl [H]; · iexact H
    iintro H
    generalize (rowsMem.access (Rect.unit (s := S5376x40) ![256 * b, 0] S256x4.size (inbBlock ⟨b, by omega⟩))).read (Elt Ideal) f = v at hv ⊢
    rw [shapeCast_id, Prog.bind_assoc]
    refine BIBase.Entails.trans ?_ (wp_step X c hw ⟨b, by omega⟩ hv k hk (fun a => sweep rowsMem (rows w) n (b + 1) (by omega)
      (after ⟨b, by omega⟩ (cols v) (rows w) a k) >>= J) K)
    refine BIBase.Entails.trans ?_ (ih (b + 1) (by omega) _ (after_ind X hw ⟨b, by omega⟩ hv k hk) J K)
    iintro ⟨Hk, H⟩
    isplitl [H]; · iexact H
    iexact Hk
end Cert.Sweep
end
-- ==== Proof.Selected.lean ====
module
public import proofs.«01_k».proof.Proof.Suppress
@[expose] public section
set_option maxRecDepth 65536
noncomputable section
/-! The rows of the first 300 kept candidates, as the kernel's last product leaves them. -/
namespace Cert.Sweep
open Idealize Idealize.ShloMosaic Idealize.SL.Sem Cert.SelectIdeal
open scoped Classical
variable [Cert.SelectIdeal.Facts]
open Facts₀ Facts

/-- How many positions below `n` have at most `s` members of `P` up to and including them. -/
def place (P : ℕ → Prop) (n s : ℕ) : ℕ := Nat.count (fun i => Nat.count P (i + 1) ≤ s) n

theorem count_below {n x : ℕ} (h : x ≤ n) : Nat.count (fun i => i < x) n = x := by
  rw [Nat.count_eq_card_filter_range]
  have : (Finset.range n).filter (fun i => i < x) = Finset.range x := by
    ext i; simp only [Finset.mem_filter, Finset.mem_range]; omega
  rw [this, Finset.card_range]

/-- The place of a member is the member. -/
theorem place_member {P : ℕ → Prop} {n x : ℕ} (h : x < n) (hP : P x) : place P n (Nat.count P x) = x := by
  have e : ∀ i, Nat.count P (i + 1) ≤ Nat.count P x ↔ i < x := by
    intro i
    refine ⟨fun hi => ?_, fun hi => Nat.count_monotone P hi⟩
    by_contra hc
    have := Nat.count_monotone P (show x + 1 ≤ i + 1 by omega)
    rw [Nat.count_succ, if_pos hP] at this
    omega
  unfold place
  simp only [e]
  exact count_below (Nat.le_of_lt h)

/-- Every rank below the number of members is some member's. -/
theorem exists_member (P : ℕ → Prop) : ∀ {n s : ℕ}, s < Nat.count P n → ∃ x, x < n ∧ P x ∧ Nat.count P x = s
  | 0, s, h => by simp at h
  | n + 1, s, h => by
    by_cases h1 : s < Nat.count P n
    · obtain ⟨x, hx, h2⟩ := exists_member P h1
      exact ⟨x, by omega, h2⟩
    · rw [Nat.count_succ] at h
      by_cases hP : P n
      · rw [if_pos hP] at h; exact ⟨n, by omega, hP, by omega⟩
      · rw [if_neg hP] at h; omega

theorem place_lt {P : ℕ → Prop} {n s : ℕ} (h : s < Nat.count P n) : place P n s < n := by
  obtain ⟨x, hx, hP, rfl⟩ := exists_member P h
  rw [place_member hx hP]; exact hx

/-- Past the last member the place is the end. -/
theorem place_end {P : ℕ → Prop} {n s : ℕ} (h : Nat.count P n ≤ s) : place P n s = n := by
  unfold place
  rw [Nat.count_iff_forall]
  intro i hi
  exact (Nat.count_monotone P (show i + 1 ≤ n by omega)).trans h

variable (X : FVec Ideal S5376x40 .f32)

/-- The kept candidates by their number. -/
def keptAt (x : ℕ) : Prop := ∃ h : x < 5376, kept X ⟨x, h⟩

theorem keptAt_val (x : Fin 5376) : keptAt X x.val ↔ kept X x := ⟨fun ⟨_, h⟩ => h, fun h => ⟨x.isLt, h⟩⟩

/-- Slot `s` of the result: the row of the kept candidate of rank `s`, zeros where there is none or beyond 300. -/
def slotRow (s : ℕ) (d : Fin 40) : EReal :=
  if h : s < 300 ∧ s < Nat.count (keptAt X) 5376 then X (ix2 ⟨place (keptAt X) 5376 s, place_lt h.2⟩ d) else 0

def selected : FVec Ideal S320x40 .f32 := fun i => slotRow X (i 0).val (i 1)

theorem selected_apply (s : Fin 320) (d : Fin 40) : selected X (ix2 s d) = slotRow X s.val d := rfl

theorem concat_kept : concatBlocks (F := Ideal) (fun b => ind1 fun t => kept X (idx b t)) = indAll (keptAt X) := by
  rw [← concat_ind]
  congr 1
  funext b
  congr 1
  funext t
  exact propext (keptAt_val X (idx b t)).symm

/-- The sum over all candidates picks the one of rank `s`. -/
theorem sum_slot (s : Fin 320) (d : Fin 40) :
    (∑ x : Fin 5376, (if keptAt X x.val ∧ Nat.count (keptAt X) x.val = s.val ∧ s.val < 300 then (1 : EReal) else 0) * X (ix2 x d))
      = slotRow X s.val d := by
  unfold slotRow
  by_cases h : s.val < 300 ∧ s.val < Nat.count (keptAt X) 5376
  · rw [dif_pos h]
    obtain ⟨x, hx, hP, hs⟩ := exists_member (keptAt X) h.2
    have e : place (keptAt X) 5376 s.val = x := by rw [← hs]; exact place_member hx hP
    rw [Finset.sum_eq_single (⟨x, hx⟩ : Fin 5376)]
    · rw [if_pos ⟨hP, hs, h.1⟩, one_mul]; simp only [e]
    · intro y _ hy
      rw [if_neg, zero_mul]
      rintro ⟨h1, h2, -⟩
      apply hy
      apply Fin.ext
      rw [← place_member y.isLt h1, h2, e]
    · intro hn; exact absurd (Finset.mem_univ _) hn
  · rw [dif_neg h]
    refine Finset.sum_eq_zero fun x _ => ?_
    rw [if_neg, zero_mul]
    rintro ⟨h1, h2, h3⟩
    refine h ⟨h3, ?_⟩
    have := Nat.count_monotone (keptAt X) (show x.val + 1 ≤ 5376 from x.isLt)
    rw [Nat.count_succ, if_pos h1] at this
    omega

/-- The kernel's last product. -/
theorem picked : matmul (F := Ideal) dot_S320x5376_S5376x40_S320x40_1_0_0_1_n_n (some .fp32) (hits (indAll (keptAt X))) X
    (constant S320x40 .f32 0x00000000#32) = selected X := by
  funext i
  obtain ⟨s, d, rfl⟩ : ∃ s d, i = ix2 s d := ⟨_, _, eq_ix2 i⟩
  rw [selected_apply, ← sum_slot]
  simp only [← hits_apply]
  generalize hits (indAll (keptAt X)) = H
  pointwise []
end Cert.Sweep
end
-- ==== Proof.SelectRun.lean ====
module
public import proofs.«01_k».proof.Proof.SweepRun
public import proofs.«01_k».proof.Proof.Selected
public import proofs.«01_k».proof.Proof.Gen.SelectIdeal.Launch
public import proofs.«01_k».proof.Proof.Gen.SelectIdeal.Points
public import Idealize.ShloMosaic.Lib.Pipeline.KitQuiescent
public import Idealize.ShloMosaic.Lib.Pipeline.FrameSuffix
@[expose] public section
set_option maxRecDepth 65536
noncomputable section
/-! The selection kernel's run: it ends, and leaves the first 300 kept rows. -/
namespace Cert.Sweep
open Cert.SelectIdeal Cert.SelectIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)
open scoped Classical

theorem write_out (c : Dev nD) (g : Buf (Elt Ideal) ((c : Thread nD τ).loc cc0_stg1_0)) (w : FVec Ideal S320x40 .f32) :
    (outMem.access (Rect.unit (s := S320x40) ![0, 0] S320x40.size Facts₀.inb_S320x40_S320x40_0_0)).write (Elt Ideal) g w Finset.univ = w :=
  Memref.write_access_unit_zero_univ (Elt Ideal) cc0_stg1_0 (funext fun a => by fin_cases a <;> rfl) _ g w

theorem read_whole (X : FVec Ideal S5376x40 .f32) :
    (rowsMem.access (Rect.unit (s := S5376x40) ![0, 0] S5376x40.size Facts₀.inb_S5376x40_S5376x40_0_0)).read (Elt Ideal) X = X := by
  funext j
  refine congrArg X (funext fun a => Fin.ext ?_)
  fin_cases a
  · show 0 + 1 * (j 0).val = (j 0).val; omega
  · show 0 + 1 * (j 1).val = (j 1).val; omega

abbrev ptsOut (c : Dev nD) (g : Buf (Elt Ideal) ((c : Thread nD τ).loc cc0_stg1_0)) : sProp MM :=
  iprop(((c : Thread nD τ).loc cc0_stg1_0) ↦{fullShare} g)

theorem load_out (c : Dev nD) (f : Buf (Elt Ideal) ((c : Thread nD τ).loc cc0_stg1_0)) (r : Rect S320x40)
    (hl : outMem.view.LoadsAt r.toLoadRect) {α : Type}
    (k : (r.shape.Idx → Elt Ideal .f32) → Prog (TpuEff nD τ sig (Elt Ideal) (Λ₀ Ideal) .tc) α) (K : α → sProp MM) :
    iprop(ptsOut c f ∗ (ptsOut c f -∗ wp frame (wpE (defs₀ (F := Ideal)) 𝒱₀ (c : Thread nD τ) none) Set.univ
        (k ((outMem.access r).read (Elt Ideal) f)) K))
      ⊢ wp frame (wpE (defs₀ (F := Ideal)) 𝒱₀ (c : Thread nD τ) none) Set.univ (.op (.load outMem r.toLoadRect hl) k) K := by
  unfold ptsOut
  iintro ⟨H, Hk⟩
  iapply (wp_load_rect 𝒱₀ (c : Thread nD τ) none Set.univ (m := Memref.whole cc0_stg1_0) (r := r) (Finset.subset_univ _)) $$ H; iintro H
  iapply Hk
  iexact H

theorem store_out (c : Dev nD) (f : Buf (Elt Ideal) ((c : Thread nD τ).loc cc0_stg1_0)) (r : Rect S320x40)
    (w : r.shape.Idx → Elt Ideal .f32) (hx : (outMem.access r).Stores Finset.univ) (hm) {α : Type}
    (k : PUnit → Prog (TpuEff nD τ sig (Elt Ideal) (Λ₀ Ideal) .tc) α) (K : α → sProp MM) :
    iprop(ptsOut c f ∗ (ptsOut c ((outMem.access r).write (Elt Ideal) f w Finset.univ) -∗
        wp frame (wpE (defs₀ (F := Ideal)) 𝒱₀ (c : Thread nD τ) none) Set.univ (k ⟨⟩) K))
      ⊢ wp frame (wpE (defs₀ (F := Ideal)) 𝒱₀ (c : Thread nD τ) none) Set.univ (.op (.store outMem r w Finset.univ hx hm) k) K := by
  unfold ptsOut
  iintro ⟨H, Hk⟩
  iapply (wp_store 𝒱₀ (c : Thread nD τ) none Set.univ (m := Memref.whole cc0_stg1_0) (r := r) (Mk := Finset.univ) (Finset.subset_univ _)) $$ H; iintro H
  iapply Hk
  iexact H

theorem store_whole (c : Dev nD) (f : Buf (Elt Ideal) ((c : Thread nD τ).loc cc0_stg1_0)) (w : FVec Ideal S320x40 .f32)
    (hx : (outMem.access (Rect.unit (s := S320x40) ![0, 0] S320x40.size Facts₀.inb_S320x40_S320x40_0_0)).Stores Finset.univ) (hm) {α : Type}
    (k : PUnit → Prog (TpuEff nD τ sig (Elt Ideal) (Λ₀ Ideal) .tc) α) (K : α → sProp MM) :
    iprop(ptsOut c f ∗ (ptsOut c w -∗ wp frame (wpE (defs₀ (F := Ideal)) 𝒱₀ (c : Thread nD τ) none) Set.univ (k ⟨⟩) K))
      ⊢ wp frame (wpE (defs₀ (F := Ideal)) 𝒱₀ (c : Thread nD τ) none) Set.univ
        (.op (.store outMem (Rect.unit (s := S320x40) ![0, 0] S320x40.size Facts₀.inb_S320x40_S320x40_0_0) w Finset.univ hx hm) k) K := by
  have h := store_out c f (Rect.unit (s := S320x40) ![0, 0] S320x40.size Facts₀.inb_S320x40_S320x40_0_0) w hx hm k K
  rw [write_out] at h
  exact h

/-- The kernel, holding the rows at `X`, leaves the selected rows of `X`. -/
theorem wp_whole (X : FVec Ideal S5376x40 .f32) (c : Dev nD) (f : Buf (Elt Ideal) ((c : Thread nD τ).loc cc0_stg0_0)) (hf : f = X)
    (g : Buf (Elt Ideal) ((c : Thread nD τ).loc cc0_stg1_0)) (K : PUnit → sProp MM) :
    iprop(ptsX c f ∗ ptsOut c g ∗ (ptsX c f -∗ ptsOut c (selected X) -∗ K ⟨⟩))
      ⊢ wp frame (wpE (defs₀ (F := Ideal)) 𝒱₀ (c : Thread nD τ) none) Set.univ
        (whole rowsMem outMem (Memref.isWhole_whole _)) K := by
  simp only [whole, Prog.lift, Prog.bind_op, Prog.bind_ret]
  refine BIBase.Entails.trans ?_ (load_rows c f _ _ _ K)
  iintro ⟨H, Hg, Hk⟩
  isplitl [H]; · iexact H
  iintro H
  have hw : ∀ i d, (rowsMem.access (Rect.unit (s := S5376x40) ![0, 0] S5376x8.size Facts₀.inb_S5376x40_S5376x8_0_0)).read (Elt Ideal) f
      (ix2 i d) = X (ix2 i ⟨d.val, by omega⟩) := by rw [hf]; exact read_first X
  generalize (rowsMem.access (Rect.unit (s := S5376x40) ![0, 0] S5376x8.size Facts₀.inb_S5376x40_S5376x8_0_0)).read (Elt Ideal) f = w at hw ⊢
  rw [shapeCast_id]
  iapply (wp_sweep X c f hf hw 21 0 rfl (start w) (start_ind X hw))
  isplitl [H]; · iexact H
  iintro H
  rw [concat_kept]
  iapply (load_rows c f)
  isplitl [H]; · iexact H
  iintro H
  rw [show (rowsMem.access (Rect.unit (s := S5376x40) ![0, 0] S5376x40.size Facts₀.inb_S5376x40_S5376x40_0_0)).read (Elt Ideal) f = X from
    hf ▸ read_whole f, shapeCast_id, picked]
  iapply (load_out c g)
  isplitl [Hg]; · iexact Hg
  iintro Hg
  iapply (store_whole c g (selected X))
  isplitl [Hg]; · iexact Hg
  iintro Hg
  rw [Prog.pure_eq_ret, wp_ret]; imodintro
  iapply Hk $$ H
  iexact Hg

/-! ### The launch -/

variable (m : (ℓ : Loc nD τ sig) → Buf (Elt Ideal) ℓ) (ρ : Dev nD → PrngReg)

/-- The memory as the host code before the kernel leaves it. -/
def V₀ (c : Dev nD) : Valuation τ sig (Elt Ideal) :=
  StableHlo.after [hostOps0, hostOps0_1, hostOps0_2, hostOps0_3, hostOps0_4].flatten (fun b => m (c, b))

/-- The rows as fetched. -/
def fetched (c : Dev nD) : (cc0_stg0_0 : Ref sig .tc).ty.Contents (Elt Ideal) :=
  (win0_0.blk t0_0).view.read (Elt Ideal) (V₀ m c (Proc.devRef .tc main_v39))

/-- The pipeline's data: the rows stay, the result's buffer ends at the selected rows. -/
def dats (_ : Fin 1) (c : Dev nD) : Dat τ (Elt Ideal) Unit ℕ UR ℕ (cfg0 (F := Ideal)) c where
  A w := V₀ m c (Proc.devRef .tc (Pipeline.arrRef spec0 w))
  after w _ := match w with
    | ⟨0, _⟩ => fetched m c
    | ⟨1, _⟩ => selected (fetched m c)
  Φ _ := Pipeline.ΦA spec0 c
  q _ := fullShare
  owed _ := 0

theorem owns_whole_eq (c : Dev nD) (b : Ref sig .tc) (X : b.ty.Contents (Elt Ideal)) :
    (owns (Ix := Unit) (Name := ℕ) (U := UR) (Lvl := ℕ) (c : Thread nD τ) (Memref.whole b) fullShare X : sProp MM)
      = iprop(∃ f : Buf (Elt Ideal) (((c : Dev nD) : Thread nD τ).loc b), ⌜f = X⌝ ∗ (((c : Thread nD τ).loc b) ↦{fullShare} f)) := by
  unfold owns; simp only [Memref.view_whole, View.read_whole, View.set_whole]

/-- A staging buffer at contents equal to `X`. -/
abbrev stg (c : Dev nD) (b : Ref sig .tc) (X : b.ty.Contents (Elt Ideal)) : sProp MM :=
  iprop(∃ f : Buf (Elt Ideal) (((c : Dev nD) : Thread nD τ).loc b), ⌜f = X⌝ ∗ (((c : Thread nD τ).loc b) ↦{fullShare} f))

def bodyPre (c : Dev nD) : sProp MM :=
  iprop(Pipeline.ΦA spec0 c ∗ (dats m 0 c).owesAt () (t0_0 : Fin (cfg0 (F := Ideal)).N).castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp MM :=
  iprop(Pipeline.ΦA spec0 c ∗ (dats m 0 c).owesAt () (t0_0 : Fin (cfg0 (F := Ideal)).N).succ
    ∗ stg c cc0_stg0_0 (fetched m c) ∗ stg c cc0_stg1_0 (selected (fetched m c)))

theorem sound_body (c : Dev nD) (K : PUnit → sProp MM) :
    iprop(bodyPre m c ∗ (bodyPost m c -∗ K ⟨⟩))
      ⊢ wp frame (wpE (defs₀ (F := Ideal)) 𝒱₀ (c : Thread nD τ) none) Set.univ
          (cc0__nms_select_kernel rowsMem (Memref.isWhole_whole _) outMem (Memref.isWhole_whole _)) K := by
  rw [printed]
  unfold bodyPre
  iintro ⟨⟨HΦ, Ho, ⟨%d0, %f, %hf, H⟩, ⟨%d1, %g, %hg, Hg⟩⟩, Hk⟩
  have hX : f = fetched m c := by rw [hf]; unfold Dat.before; rw [if_pos (fetch0_0 t0_0)]; rfl
  iapply (wp_whole (fetched m c) c f hX g)
  isplitl [H]; · iexact H
  isplitl [Hg]; · iexact Hg
  iintro H Hg
  iapply Hk
  unfold bodyPost
  rw [show (dats m 0 c).owesAt () (t0_0 : Fin (cfg0 (F := Ideal)).N).succ
    = (dats m 0 c).owesAt () (t0_0 : Fin (cfg0 (F := Ideal)).N).castSucc from rfl]
  isplitl [HΦ]; · iexact HΦ
  isplitl [Ho]; · iexact Ho
  isplitl [H]
  · iexists f; isplitr; · (ipureintro; exact hX)
    iexact H
  iexists (selected (fetched m c)); isplitr; · (ipureintro; rfl)
  iexact Hg

theorem body_obligation (c : Dev nD) : BodyObligation (dats m 0 c) (defs₀ (F := Ideal)) 𝒱₀ () Set.univ := fun t => by
  rw [fin_N0 t]
  rw [bigSep_W0, bigSep_W0]
  simp only [owns_whole_eq]
  show bodyPre m c ⊢ wp frame (wpE (defs₀ (F := Ideal)) 𝒱₀ c none) Set.univ
    (cc0__nms_select_kernel rowsMem (Memref.isWhole_whole _) outMem (Memref.isWhole_whole _)) (fun _ => bodyPost m c)
  iintro H
  iapply (sound_body m c fun _ => bodyPost m c)
  isplitl [H]; · iexact H
  iintro H; iexact H

theorem share_eq (c : Dev nD) (w : Fin (cfg0 (F := Ideal)).W) : (dats m 0 c).share w = fullShare := by
  unfold Dat.share; split <;> rfl

theorem tail_sub : ∀ ops ∈ [(hostOps1 : List (HloOp τ sig (Elt Ideal)))], ∀ op ∈ ops, op.bufs ⊆ Pipeline.tailRefs sig Pipeline.Prefetch.none spec0 := by
  intro ops ho op hop
  obtain rfl := List.mem_singleton.1 ho
  exact Pipeline.sub_tailRefs _ _ op (List.forall_iff_forall_mem.1 hostOps1_sub op hop) (fun k => k.elim0)

theorem tail_fresh : ∀ ops ∈ [(hostOps1 : List (HloOp τ sig (Elt Ideal)))], ∀ op ∈ ops, op.fresh = ∅ := by
  intro ops ho op hop
  obtain rfl := List.mem_singleton.1 ho
  simp only [List.mem_cons, List.not_mem_nil, or_false] at hop
  rcases hop with rfl | rfl | rfl <;> rfl

theorem tail_keep : ∀ ops ∈ [(hostOps1 : List (HloOp τ sig (Elt Ideal)))], ∀ op ∈ ops, ∀ w, Proc.devRef .tc (Pipeline.arrRef spec0 w) ∉ op.writes := by
  intro ops ho op hop w
  obtain rfl := List.mem_singleton.1 ho
  simp only [List.mem_cons, List.not_mem_nil, or_false] at hop
  rcases hop with rfl | rfl | rfl <;> fin_cases w <;> decide

theorem head_fresh : [(hostOps0 : List (HloOp τ sig (Elt Ideal))), hostOps0_1, hostOps0_2, hostOps0_3, hostOps0_4].Forall fun ops => ops.Forall fun op => op.fresh = ∅ := by
  repeat' constructor

theorem host_main : Pipeline.HMainK (Ix := Unit) (Name := ℕ) (U := UR) (Lvl := ℕ) cfgs (0 : Fin 1) defs₀ 𝒱₀ m (main (F := Ideal))
    (fun c b => V₀ m c (Proc.devRef .tc b)) (fun _ => Pipeline.chain ([hostOps1].map StableHlo.seq)) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩ head_fresh main_chain

set_option backward.isDefEq.respectTransparency.types false in
theorem run_main : θ_run defs (onTc (τ := τ) (main (F := Ideal))) ⟨m, fun _ => 0, ρ⟩
    (fun r => Pipeline.FramePost cfgs (dats m) 0 (Pipeline.afterTail₀ cfgs (dats m) 0 (V₀ m) [hostOps1]) r ∧ r.2.sem = fun _ => 0) :=
  Pipeline.θ_run_frame_around cfgs (dats m) (0 : Fin 1) launch0 defs₀ 𝒱₀ m ρ main
    (fun c => (body_obligation m c).loose) (share_eq m) (fun _ _ => rfl) (V₀ m) [hostOps1]
    tail_sub tail_fresh tail_keep (host_main m)
    (fun _ _ => rfl) (fun _ _ => rfl)
    (fun r => Pipeline.FramePost cfgs (dats m) 0 (Pipeline.afterTail₀ cfgs (dats m) 0 (V₀ m) [hostOps1]) r ∧ r.2.sem = fun _ => 0)
    (fun _ h => h)
end Cert.Sweep
end
-- ==== Proof.Packed.lean ====
module
public import proofs.«01_k».proof.Proof.Gen.SelectIdeal.Launch
public import Idealize.ShloMosaic.Lib.Pointwise
public import Idealize.ShloMosaic.Lib.Routing.Words
public import Idealize.ShloMosaic.Lib.Routing.Ops
public import Idealize.ShloMosaic.Lib.Routing.OpsSet
public import Idealize.ShloMosaic.Lib.DynamicIndex
public import Idealize.ShloMosaic.Lib.ValueIdxCore
@[expose] public section
set_option maxRecDepth 65536
noncomputable section
/-! The rows the selection reads, as a function of the candidates: corners, best score, its class and the mask's
coefficients, in descending order of the best score. -/
namespace Cert.Sweep
open Cert.SelectIdeal Cert.SelectIdeal.Gen
open Idealize Idealize.ShloMosaic Idealize.ShloMosaic.TcCoe Idealize.ShloMosaic.Tactic
open Idealize.ShloMosaic.StableHlo Idealize.ShloMosaic.Routing

variable (B : FVec Ideal S1x40x5376 .f32)

def fields : FVec Ideal S40x5376 .f32 := shapeCast S40x5376 B shapeCasts_S1x40x5376_S40x5376

def classes : FVec Ideal S4x5376 .f32 := extractStridedSlice S4x5376 ![4, 0] (fields B) slices_S40x5376_S4x5376_4_0

/-- Each candidate's best score over the classes. -/
def best : FVec Ideal S5376 .f32 :=
  Host.reduce FloatOps.maximumf (classes B) (constant (F := Ideal) S_ .f32 0xFF800000#32) reducesTo_S4x5376_S5376_d0 h_S_

/-- The class of the best score. -/
def kind : IVec S5376 32 := fun j =>
  (Host.argReduce (reducer_argmax_f32_i32 (F := Ideal)) (classes B) (iotaInDim S4x5376 32 0) (constant (F := Ideal) S_ .f32 0xFF800000#32) (constantI S_ 32 0#32)
    reducesTo_S4x5376_S5376_d0 h_S_ j).2

/-- Centres and extents, a candidate a row. -/
def extents : FVec Ideal S5376x4 .f32 :=
  transpose S5376x4 [1, 0] (extractStridedSlice S4x5376 ![0, 0] (fields B) slices_S40x5376_S4x5376_0_0) transposes_S4x5376_S5376x4_1_0

def halves : FVec Ideal S5376x2 .f32 :=
  Host.divf (F := Ideal) (φ := .f32) (extractStridedSlice S5376x2 ![0, 2] (extents B) slices_S5376x4_S5376x2_0_2)
    (broadcastInDim S5376x2 ![] bcast_S_S5376x2 (constant (F := Ideal) S_ .f32 0x40000000#32))

def centres : FVec Ideal S5376x2 .f32 := extractStridedSlice S5376x2 ![0, 0] (extents B) slices_S5376x4_S5376x2_0_0

/-- Each coordinate's place among the corners as computed. -/
def swaps : IVec S4x1 32 :=
  let c : IVec S4 32 := fun i => lit0 (S4.rowMajor i)
  broadcastInDim S4x1 ![0] bcast_S4_S4x1_0
    (select (cmpi .slt c (broadcastInDim S4 ![] bcast_S_S4 (constantI S_ 32 0#32))) (addi c (broadcastInDim S4 ![] bcast_S_S4 (constantI S_ 32 4#32))) c)

def ends : FVec Ideal S5376x4 .f32 :=
  concatenate S5376x4 1 [⟨S5376x2, subf (F := Ideal) (φ := .f32) (centres B) (halves B)⟩, ⟨S5376x2, addf (F := Ideal) (φ := .f32) (centres B) (halves B)⟩] concatenates_S5376x2_S5376x2_S5376x4_d1

/-- The boxes' corners. -/
def corners : FVec Ideal S5376x4 .f32 := Host.gather gather_S5376x4_S4x1_S5376x4_0_1_n_n_1_1_53761 (ends B) swaps

/-- The candidates' numbers in descending order of the best score. -/
def order : IVec S5376 32 := (Host.sort2 S5376 0 (comparator_f32_i32_d0 (F := Ideal)) (Host.negf (F := Ideal) (φ := .f32) (best B)) (iotaInDim S5376 32 0)).2

def packed : FVec Ideal S5376x40 .f32 :=
  concatenate S5376x40 1 [⟨S5376x4, corners B⟩, ⟨S5376x1, broadcastInDim S5376x1 ![0] bcast_S5376_S5376x1_0 (best B)⟩,
    ⟨S5376x1, broadcastInDim S5376x1 ![0] bcast_S5376_S5376x1_0 (sitofp (F := Ideal) .f32 (kind B))⟩,
    ⟨S5376x2, broadcastInDim S5376x2 ![] bcast_S_S5376x2 (constant (F := Ideal) S_ .f32 0x00000000#32)⟩,
    ⟨S5376x32, transpose S5376x32 [1, 0] (extractStridedSlice S32x5376 ![8, 0] (fields B) slices_S40x5376_S32x5376_8_0) transposes_S32x5376_S5376x32_1_0⟩]
    concatenates_S5376x4_S5376x1_S5376x1_S5376x2_S5376x32_S5376x40_d1

/-- Numbers counted from the end when negative, as a column. -/
def wrapCol (o : IVec S5376 32) : IVec S5376x1 32 :=
  broadcastInDim S5376x1 ![0] bcast_S5376_S5376x1_0
    (select (cmpi .slt o (broadcastInDim S5376 ![] bcast_S_S5376 (constantI S_ 32 0#32))) (addi o (broadcastInDim S5376 ![] bcast_S_S5376 (constantI S_ 32 5376#32))) o)

/-- The rows in that order. -/
def sorted : FVec Ideal S5376x40 .f32 := Host.gather gather_S5376x40_S5376x1_S5376x40_1_0_n_n_0_1_140 (packed B) (wrapCol (order B))

theorem order_word (j : Fin 5376) : ∃ r : Fin 5376, order B (ix1 j) = BitVec.ofNat 32 r.val := by
  unfold order Host.sort2
  rw [dif_pos (by decide : 0 < S5376.rank)]
  exact ⟨_, rfl⟩

/-- The candidate whose row is the `j`-th. -/
def rowAt (j : Fin 5376) : Fin 5376 := (order_word B j).choose
theorem rowAt_word (j : Fin 5376) : order B (ix1 j) = BitVec.ofNat 32 (rowAt B j).val := (order_word B j).choose_spec

theorem wrapCol_at (o : IVec S5376 32) (j r : Fin 5376) (h : o (ix1 j) = BitVec.ofNat 32 r.val) : wrapCol o (ix2 j (0 : Fin 1)) = BitVec.ofNat 32 r.val := by
  have hr := r.isLt
  have e : wrapCol o (ix2 j (0 : Fin 1)) = select (cmpi .slt o (broadcastInDim S5376 ![] bcast_S_S5376 (constantI S_ 32 0#32)))
      (addi o (broadcastInDim S5376 ![] bcast_S_S5376 (constantI S_ 32 5376#32))) o (ix1 j) :=
    congrArg (select (cmpi .slt o (broadcastInDim S5376 ![] bcast_S_S5376 (constantI S_ 32 0#32)))
      (addi o (broadcastInDim S5376 ![] bcast_S_S5376 (constantI S_ 32 5376#32))) o) (funext fun a => by fin_cases a; rfl)
  rw [e]
  refine (select_slt_zero_of_nonneg o _ o (ix1 j) ?_).trans h
  rw [h, toInt_ofNat_of_lt (by omega)]
  omega

theorem sorted_at (j : Fin 5376) (d : Fin 40) : sorted B (ix2 j d) = packed B (ix2 (rowAt B j) d) :=
  gather_row (nb := 5376) (B := 40) (n := 5376) _ rfl rfl rfl rfl rfl _ _ j d (rowAt B j) (wrapCol_at _ j _ (rowAt_word B j)) (by omega)

theorem packed_corner (r : Fin 5376) (d : Fin 4) : packed B (ix2 r ⟨d.val, by omega⟩) = corners B (ix2 r d) := by
  unfold packed
  generalize corners B = C
  generalize best B = b
  generalize kind B = k
  pointwise []

theorem packed_best (r : Fin 5376) : packed B (ix2 r 4) = best B (ix1 r) := by
  unfold packed
  generalize corners B = C
  generalize best B = b
  generalize kind B = k
  pointwise []

theorem packed_kind (r : Fin 5376) : packed B (ix2 r 5) = sitofp (F := Ideal) .f32 (kind B) (ix1 r) := by
  unfold packed
  generalize corners B = C
  generalize best B = b
  generalize kind B = k
  pointwise []

/-- Taking columns by their numbers. -/
theorem columns_at (x : FVec Ideal S5376x4 .f32) (o : IVec S4x1 32) (r : Fin 5376) (d b : Fin 4) (h : o (ix2 d (0 : Fin 1)) = BitVec.ofNat 32 b.val) :
    Host.gather gather_S5376x4_S4x1_S5376x4_0_1_n_n_1_1_53761 x o (ix2 r d) = x (ix2 r b) := by
  unfold Host.gather
  refine congrArg x (funext fun a => Fin.ext ?_)
  match a with
  | ⟨0, _⟩ =>
    show GatherDims.start _ (ix2 r d) o 0 + GatherDims.batchCoord _ (ix2 r d) 0 + GatherDims.offCoord _ (ix2 r d) 0 = r.val
    rw [GatherDims.batchCoord_eq_zero _ _ _ (List.not_mem_nil), Nat.add_zero]
    unfold GatherDims.start GatherDims.offCoord
    rw [dif_neg (by decide), dif_pos (by decide), Nat.zero_add]
    rfl
  | ⟨1, _⟩ =>
    show GatherDims.start _ (ix2 r d) o 1 + GatherDims.batchCoord _ (ix2 r d) 1 + GatherDims.offCoord _ (ix2 r d) 1 = b.val
    rw [GatherDims.batchCoord_eq_zero _ _ _ (List.not_mem_nil), Nat.add_zero]
    unfold GatherDims.start GatherDims.offCoord
    rw [dif_pos (by decide), dif_neg (by decide), Nat.add_zero]
    have e : GatherDims.siIdx gather_S5376x4_S4x1_S5376x4_0_1_n_n_1_1_53761 (ix2 r d)
        ⟨List.idxOf (1 : Fin 2) [1], by decide⟩ = ix2 d (0 : Fin 1) := by
      funext a
      fin_cases a <;> rfl
    refine (congrArg (fun w : BitVec 32 => min w.toInt.toNat 3) ((congrArg o e).trans h)).trans ?_
    have := b.isLt
    rw [toInt_ofNat_of_lt (by omega)]
    show min b.val 3 = b.val
    omega

theorem corners_at (r : Fin 5376) (d : Fin 4) : corners B (ix2 r d) = ends B (ix2 r (![1, 0, 3, 2] d)) := by
  have hs : ∀ d : Fin 4, swaps (ix2 d (0 : Fin 1)) = BitVec.ofNat 32 (![1, 0, 3, 2] d : Fin 4).val := by decide
  exact columns_at _ _ r d _ (hs d)

theorem ends_low (r : Fin 5376) (d : Fin 2) : ends B (ix2 r ⟨d.val, by omega⟩)
    = B (ix3 (0 : Fin 1) ⟨d.val, by omega⟩ r) - Ideal.div (B (ix3 (0 : Fin 1) ⟨2 + d.val, by omega⟩ r)) (Ideal.ofBits .f32 0x40000000#32) := by
  unfold ends
  pointwise [centres, halves, extents, fields]

theorem ends_high (r : Fin 5376) (d : Fin 2) : ends B (ix2 r ⟨d.val + 2, by omega⟩)
    = B (ix3 (0 : Fin 1) ⟨d.val, by omega⟩ r) + Ideal.div (B (ix3 (0 : Fin 1) ⟨2 + d.val, by omega⟩ r)) (Ideal.ofBits .f32 0x40000000#32) := by
  unfold ends
  pointwise [centres, halves, extents, fields]
  rw [dif_neg (by omega)]
  simp only [Nat.add_sub_cancel]

end Cert.Sweep
end
-- ==== Proof.SelectResult.lean ====
module
public import proofs.«01_k».proof.Proof.SelectRun
public import proofs.«01_k».proof.Proof.Packed
@[expose] public section
set_option maxRecDepth 65536
noncomputable section
/-! What the kernel's program leaves: the selected rows' scores, classes and corners. -/
namespace Cert.Sweep
open Cert.SelectIdeal Cert.SelectIdeal.Gen
open Idealize Idealize.ShloMosaic Idealize.ShloMosaic.TcCoe Idealize.ShloMosaic.Tactic
open Idealize.ShloMosaic.StableHlo
open Idealize.SL.Sem

variable (W : Valuation τ sig (Elt Ideal))

abbrev boxRows (B : FVec Ideal S1x40x5376 .f32) : FVec Ideal S4x5376 .f32 := extractStridedSlice S4x5376 ![0, 0] (fields B) slices_S40x5376_S4x5376_0_0
abbrev maskRows (B : FVec Ideal S1x40x5376 .f32) : FVec Ideal S32x5376 .f32 := extractStridedSlice S32x5376 ![8, 0] (fields B) slices_S40x5376_S32x5376_8_0

theorem head_boxes : (StableHlo.after hostOps0 W (Proc.devRef .tc main_v1) : FVec Ideal S4x5376 .f32) = boxRows (W (Proc.devRef .tc main_arg0)) := by
  after_results
  rfl

theorem head_classes : (StableHlo.after hostOps0 W (Proc.devRef .tc main_v2) : FVec Ideal S4x5376 .f32) = classes (W (Proc.devRef .tc main_arg0)) := by
  after_results
  rfl

theorem head_masks : (StableHlo.after hostOps0 W (Proc.devRef .tc main_v3) : FVec Ideal S32x5376 .f32) = maskRows (W (Proc.devRef .tc main_arg0)) := by
  after_results
  rfl

theorem head_best : (StableHlo.after hostOps0 W (Proc.devRef .tc main_v4) : FVec Ideal S5376 .f32) = best (W (Proc.devRef .tc main_arg0)) := by
  after_results
  rfl

theorem head_swaps : (StableHlo.after hostOps0 W (Proc.devRef .tc main_c) : IVec S4 32) = fun i => lit0 (S4.rowMajor i) := by
  after_results
  rfl

theorem head_kind (B : FVec Ideal S1x40x5376 .f32) (h : (W (Proc.devRef .tc main_v2) : FVec Ideal S4x5376 .f32) = classes B) :
    (StableHlo.after hostOps0_1 W (Proc.devRef .tc main_v5) : IVec S5376 32) = kind B := by
  after_results
  simp only [TRef.ofBuf, TRef.toBuf, cast_cast, cast_eq, id]
  unfold kind
  rw [← h]

theorem head_corners (B : FVec Ideal S1x40x5376 .f32) (h : (W (Proc.devRef .tc main_v1) : FVec Ideal S4x5376 .f32) = boxRows B)
    (hc : (W (Proc.devRef .tc main_c) : IVec S4 32) = fun i => lit0 (S4.rowMajor i)) :
    (StableHlo.after hostOps0_2 W (Proc.devRef .tc main_v24) : FVec Ideal S5376x4 .f32) = corners B := by
  after_results
  unfold corners ends centres halves extents swaps
  rw [← hc, show extractStridedSlice S4x5376 ![0, 0] (fields B) slices_S40x5376_S4x5376_0_0 = _ from h.symm]

theorem head_order (B : FVec Ideal S1x40x5376 .f32) (h : (W (Proc.devRef .tc main_v4) : FVec Ideal S5376 .f32) = best B) :
    (StableHlo.after hostOps0_3 (StableHlo.after hostOps0_2 W) (Proc.devRef .tc main_v26) : IVec S5376 32) = order B := by
  have e : (StableHlo.after hostOps0_2 W (Proc.devRef .tc main_v25) : FVec Ideal S5376 .f32) = Host.negf (F := Ideal) (φ := .f32) (best B) := by
    rw [← h]
    after_results
  generalize StableHlo.after hostOps0_2 W = U at e ⊢
  after_results
  simp only [TRef.ofBuf, TRef.toBuf, cast_cast, cast_eq, id]
  unfold order
  rw [← e]

theorem head_sorted (B : FVec Ideal S1x40x5376 .f32) (h1 : (W (Proc.devRef .tc main_v24) : FVec Ideal S5376x4 .f32) = corners B)
    (h2 : (W (Proc.devRef .tc main_v4) : FVec Ideal S5376 .f32) = best B) (h3 : (W (Proc.devRef .tc main_v5) : IVec S5376 32) = kind B)
    (h4 : (W (Proc.devRef .tc main_v3) : FVec Ideal S32x5376 .f32) = maskRows B) (h5 : (W (Proc.devRef .tc main_v26) : IVec S5376 32) = order B) :
    (StableHlo.after hostOps0_4 W (Proc.devRef .tc main_v39) : FVec Ideal S5376x40 .f32) = sorted B := by
  unfold sorted packed wrapCol
  rw [← h1, ← h2, ← h3, ← h5, show extractStridedSlice S32x5376 ![8, 0] (fields B) slices_S40x5376_S32x5376_8_0 = _ from h4.symm]
  after_results
  rfl

variable (m : (ℓ : Loc nD τ sig) → Buf (Elt Ideal) ℓ) (ρ : Dev nD → PrngReg)

/-- The candidates at launch. -/
abbrev given (c : Dev nD) : FVec Ideal S1x40x5376 .f32 := m (c, Proc.devRef .tc main_arg0)

/-- The kernel's input is the rows in descending order of the best score. -/
theorem V₀_rows (c : Dev nD) : (V₀ m c (Proc.devRef .tc main_v39) : FVec Ideal S5376x40 .f32) = sorted (given m c) := by
  have e : V₀ m c = StableHlo.after hostOps0_4 (StableHlo.after hostOps0_3 (StableHlo.after hostOps0_2 (StableHlo.after hostOps0_1
      (StableHlo.after hostOps0 fun b => m (c, b))))) := by
    unfold V₀
    simp only [List.flatten_cons, List.flatten_nil, List.append_nil, StableHlo.after_append]
  rw [e]
  have k3 : ∀ (W : Valuation τ sig (Elt Ideal)), StableHlo.after hostOps0_3 W (Proc.devRef .tc main_v24) = W (Proc.devRef .tc main_v24) := fun W => by after_results
  have k1 : ∀ (W : Valuation τ sig (Elt Ideal)), StableHlo.after hostOps0_1 W (Proc.devRef .tc main_v1) = W (Proc.devRef .tc main_v1) := fun W => by after_results
  have c1 : ∀ (W : Valuation τ sig (Elt Ideal)), StableHlo.after hostOps0_1 W (Proc.devRef .tc main_c) = W (Proc.devRef .tc main_c) := fun W => by after_results
  have s1 : ∀ (W : Valuation τ sig (Elt Ideal)), StableHlo.after hostOps0_1 W (Proc.devRef .tc main_v4) = W (Proc.devRef .tc main_v4) := fun W => by after_results
  have s3 : ∀ (W : Valuation τ sig (Elt Ideal)), StableHlo.after hostOps0_3 (StableHlo.after hostOps0_2 W) (Proc.devRef .tc main_v4) = W (Proc.devRef .tc main_v4) := fun W => by after_results
  have c3 : ∀ (W : Valuation τ sig (Elt Ideal)), StableHlo.after hostOps0_3 (StableHlo.after hostOps0_2 W) (Proc.devRef .tc main_v5) = W (Proc.devRef .tc main_v5) := fun W => by after_results
  have q3 : ∀ (W : Valuation τ sig (Elt Ideal)), StableHlo.after hostOps0_3 (StableHlo.after hostOps0_2 (StableHlo.after hostOps0_1 W)) (Proc.devRef .tc main_v3) = W (Proc.devRef .tc main_v3) := fun W => by after_results
  refine head_sorted _ (given m c) ?_ ?_ ?_ ?_ ?_
  · exact (k3 _).trans (head_corners _ _ ((k1 _).trans (head_boxes _)) ((c1 _).trans (head_swaps _)))
  · exact (s3 _).trans ((s1 _).trans (head_best _))
  · exact (c3 _).trans (head_kind _ _ (head_classes _))
  · exact (q3 _).trans (head_masks _)
  · exact head_order _ _ ((s1 _).trans (head_best _))

theorem fetched_rows (c : Dev nD) : fetched m c = sorted (given m c) := by
  refine Eq.trans (funext fun j => ?_) (V₀_rows m c)
  refine congrArg (V₀ m c (Proc.devRef .tc main_v39) : FVec Ideal S5376x40 .f32) (funext fun a => Fin.ext ?_)
  fin_cases a
  · show 0 + 1 * (j 0).val = (j 0).val; omega
  · show 0 + 1 * (j 1).val = (j 1).val; omega

theorem arr_out (c : Dev nD) : (dats m 0 c).arrAt (1 : Fin 2) (cfg0 (F := Ideal)).N = selected (sorted (given m c)) := by
  rw [show (cfg0 (F := Ideal)).N = (t0_0 : Fin (cfg0 (F := Ideal)).N).val + 1 from rfl, (dats m 0 c).arrAt_succ (1 : Fin 2) t0_0,
    if_pos (flush0_1 t0_0)]
  show (win0_1.blk t0_0).view.write (Elt Ideal) _ (selected (fetched m c)) Finset.univ = _
  rw [fetched_rows]
  exact Memref.write_access_unit_zero_univ (Elt Ideal) main_v40 (funext fun a => by fin_cases a <;> rfl) _ _ _

theorem tail_out (c : Dev nD) : (Pipeline.withArrays spec0 c (V₀ m c) (fun w => (dats m 0 c).arrAt w (cfg0 (F := Ideal)).N)
    (Proc.devRef .tc main_v40) : FVec Ideal S320x40 .f32) = selected (sorted (given m c)) :=
  (Pipeline.withArrays_arr spec0 (by decide) c (V₀ m c) _ (1 : Fin 2)).trans (arr_out m c)

theorem tail_arg (c : Dev nD) : Pipeline.withArrays spec0 c (V₀ m c) (fun w => (dats m 0 c).arrAt w (cfg0 (F := Ideal)).N)
    (Proc.devRef .tc main_arg0) = m (c, Proc.devRef .tc main_arg0) :=
  (Pipeline.withArrays_of_ne spec0 c (V₀ m c) _ main_arg0 (by decide)).trans (by
    unfold V₀
    simp only [List.flatten_cons, List.flatten_nil, List.append_nil, StableHlo.after_append]
    after_results)

/-- The three results as slices of the selected rows. -/
theorem tail_scores (c : Dev nD) : (Pipeline.afterTail₀ cfgs (dats m) 0 (V₀ m) [hostOps1] c main_v41 : FVec Ideal S300x1 .f32)
    = extractStridedSlice S300x1 ![0, 4] (selected (sorted (given m c))) slices_S320x40_S300x1_0_4 := by
  rw [← tail_out m c]
  unfold Pipeline.afterTail₀
  generalize Pipeline.withArrays _ _ _ _ = W
  simp only [List.flatten_cons, List.flatten_nil, List.append_nil]
  after_results

theorem tail_kinds (c : Dev nD) : (Pipeline.afterTail₀ cfgs (dats m) 0 (V₀ m) [hostOps1] c main_v42 : FVec Ideal S300x1 .f32)
    = extractStridedSlice S300x1 ![0, 5] (selected (sorted (given m c))) slices_S320x40_S300x1_0_5 := by
  rw [← tail_out m c]
  unfold Pipeline.afterTail₀
  generalize Pipeline.withArrays _ _ _ _ = W
  simp only [List.flatten_cons, List.flatten_nil, List.append_nil]
  after_results

theorem tail_boxes (c : Dev nD) : (Pipeline.afterTail₀ cfgs (dats m) 0 (V₀ m) [hostOps1] c main_v43 : FVec Ideal S300x4 .f32)
    = extractStridedSlice S300x4 ![0, 0] (selected (sorted (given m c))) slices_S320x40_S300x4_0_0 := by
  rw [← tail_out m c]
  unfold Pipeline.afterTail₀
  generalize Pipeline.withArrays _ _ _ _ = W
  simp only [List.flatten_cons, List.flatten_nil, List.append_nil]
  after_results

theorem tail_given (c : Dev nD) : Pipeline.afterTail₀ cfgs (dats m) 0 (V₀ m) [hostOps1] c main_arg0 = m (c, Proc.devRef .tc main_arg0) := by
  refine Eq.trans ?_ (tail_arg m c)
  unfold Pipeline.afterTail₀
  generalize Pipeline.withArrays _ _ _ _ = W
  simp only [List.flatten_cons, List.flatten_nil, List.append_nil]
  after_results
end Cert.Sweep
end
-- ==== Proof.SelectChain.lean ====
module
public import proofs.«01_k».proof.Proof.Selected
public import proofs.«01_k».proof.Proof.Gen.SelectRefIdeal.Run
public import Idealize.ShloMosaic.Lib.Routing.Words
public import Idealize.ShloMosaic.Lib.Routing.Ops
public import Idealize.ShloMosaic.Lib.Routing.Count
public import Idealize.ShloMosaic.Lib.DynamicIndex
public import Idealize.ShloMosaic.Lib.ValueIdxCore
@[expose] public section
set_option maxRecDepth 65536
noncomputable section
/-! The reference after its loop: the positions of the kept rows, the rows there, and the padding. -/
namespace Cert.SelectReference
open Cert.SelectRefIdeal Cert.SelectRefIdeal.Gen Cert.SelectRefIdeal.Value
open Idealize Idealize.ShloMosaic Idealize.ShloMosaic.TcCoe Idealize.ShloMosaic.Tactic
open Idealize.ShloMosaic.StableHlo Idealize.ShloMosaic.Routing
open Idealize.SL.Sem
open scoped Classical

variable (V : Valuation τ sig (Elt Ideal))

theorem sum_bits (P : ℕ → Prop) (n : ℕ) : ((List.range n).map fun i => if P i then 1 else 0).sum = Nat.count P n := by
  induction n with
  | zero => rfl
  | succ n ih => rw [List.range_succ, List.map_append, List.sum_append, ih, Nat.count_succ]; simp

theorem bit_word (p : Prop) [Decidable p] : (BitVec.ofBool (decide p)).setWidth 32 = BitVec.ofNat 32 (if p then 1 else 0) := by
  by_cases h : p <;> simp [h]

/-- An index below 2³¹ counted from the end when negative is itself. -/
theorem wrapped {n : ℕ} {s : Shape} (hb : S_.BroadcastsInDim s (![] : Fin 0 → Fin s.rank)) (w b : IVec s 32) (i : s.Idx) (hn : n < 2 ^ 31) (h : w i = BitVec.ofNat 32 n) :
    select (cmpi .slt w (broadcastInDim s ![] hb (constantI S_ 32 0#32))) b w i = BitVec.ofNat 32 n := by
  refine (select_slt_zero_of_nonneg w b w i ?_).trans h
  rw [h, toInt_ofNat_of_lt hn]
  omega

/-- A position at or past a count, as a bit. -/
theorem past (c : IVec S_ 32) (n : ℕ) (hn : n ≤ 5376) (h : c ix0 = BitVec.ofNat 32 n) (j : Fin 5376) :
    cmpi .sge (iotaInDim S5376 32 0) (broadcastInDim S5376 ![0] bcast_S1_S5376_0 (broadcastInDim S1 ![] bcast_S_S1 c)) (ix1 j)
      = BitVec.ofBool (decide (n ≤ j.val)) := by
  have hj := j.isLt
  have e : (broadcastInDim S5376 ![0] bcast_S1_S5376_0 (broadcastInDim S1 ![] bcast_S_S1 c)) (ix1 j) = BitVec.ofNat 32 n :=
    (congrArg c (funext fun a => a.elim0)).trans h
  have e2 : iotaInDim S5376 32 0 (ix1 j) = BitVec.ofNat 32 j.val := rfl
  rw [cmpi_apply, e, e2]
  simp only [IntOp.cmpi, BitVec.sle, toInt_ofNat_of_lt (show j.val < 2 ^ 31 by omega), toInt_ofNat_of_lt (show n < 2 ^ 31 by omega)]
  congr 1
  simp

theorem column (x : IVec S5376 32) (i : Fin 5376) : broadcastInDim S5376x1 ![0] bcast_S5376_S5376x1_0 x (ix2 i (0 : Fin 1)) = x (ix1 i) :=
  congrArg x (funext fun a => by fin_cases a; rfl)

theorem running (P : ℕ → Prop) (h : ∀ i : Fin 5376, (V (Proc.devRef .tc main_v90_4) : IVec S5376 1) (ix1 i) = BitVec.ofBool (decide (P i.val))) (j : Fin 5376) :
    (after hostOps0_5 V (Proc.devRef .tc main_v91) : IVec S5376 32) (ix1 j) = BitVec.ofNat 32 (Nat.count P (j.val + 1)) := by
  have e : (after hostOps0_5 V (Proc.devRef .tc main_v91) : IVec S5376 32)
      = Host.reduceWindow IntOp.addi ![5376] ![1] ![5375] ![0] (extui 32 (V (Proc.devRef .tc main_v90_4) : IVec S5376 1) natLt_1_32)
        (broadcastInDim S_ ![] bcast_S_S_ (constantI S_ 32 0#32)) reduceWindows_S5376_S5376_w5376s1p5375_0 h_S_ := by
    after_results
    simp only [TRef.ofBuf, TRef.toBuf, cast_cast, cast_eq, id]
  rw [e]
  refine (cumsum1 (N := 5376) (Nm1 := 5375) rfl _ (fun i => if P i then 1 else 0) (fun i => ?_) _ rfl _ _ j).trans ?_
  · exact (congrArg (BitVec.setWidth 32) (h i)).trans (bit_word _)
  · rw [sum_bits]

theorem totals (P : ℕ → Prop) (h : ∀ i : Fin 5376, (V (Proc.devRef .tc main_v91) : IVec S5376 32) (ix1 i) = BitVec.ofNat 32 (Nat.count P (i.val + 1))) (j : Fin 5376) :
    (after hostOps0_6 V (Proc.devRef .tc main_v100) : IVec S5376 32) (ix1 j) = BitVec.ofNat 32 (Nat.count (fun i => Nat.count P (i + 1) = j.val) 5376) := by
  have e : (after hostOps0_6 V (Proc.devRef .tc main_v100) : IVec S5376 32)
      = Host.scatter scatter_S5376_S5376x1_S5376_n_0_0_1 IntOp.addi (broadcastInDim S5376 ![] bcast_S_S5376 (constantI S_ 32 0#32))
        (broadcastInDim S5376x1 ![0] bcast_S5376_S5376x1_0
          (select (cmpi .slt (V (Proc.devRef .tc main_v91) : IVec S5376 32) (broadcastInDim S5376 ![] bcast_S_S5376 (constantI S_ 32 0#32)))
            (addi (V (Proc.devRef .tc main_v91) : IVec S5376 32) (broadcastInDim S5376 ![] bcast_S_S5376 (constantI S_ 32 5376#32))) (V (Proc.devRef .tc main_v91) : IVec S5376 32)))
        (broadcastInDim S5376 ![] bcast_S_S5376 (constantI S_ 32 1#32)) := by
    after_results
  rw [e]
  have hle : ∀ i : Fin 5376, Nat.count P (i.val + 1) < 2 ^ 31 := fun i => lt_of_le_of_lt (Nat.count_le P) (by omega)
  refine scatter_hist (N := 5376) scatter_S5376_S5376x1_S5376_n_0_0_1 rfl rfl rfl _ (fun _ => rfl) _ _ (fun _ => rfl) (fun i => Nat.count P (i + 1)) (fun i => ?_) hle j
  refine (column _ i).trans ?_
  exact wrapped bcast_S_S5376 (V (Proc.devRef .tc main_v91)) _ (ix1 i) (hle i) (h i)

theorem places (H : ℕ → ℕ) (h : ∀ i : Fin 5376, (V (Proc.devRef .tc main_v100) : IVec S5376 32) (ix1 i) = BitVec.ofNat 32 (H i.val)) (j : Fin 5376) :
    (after hostOps0_7 V (Proc.devRef .tc main_v101) : IVec S5376 32) (ix1 j) = BitVec.ofNat 32 ((List.range (j.val + 1)).map H).sum := by
  have e : (after hostOps0_7 V (Proc.devRef .tc main_v101) : IVec S5376 32)
      = Host.reduceWindow IntOp.addi ![5376] ![1] ![5375] ![0] (V (Proc.devRef .tc main_v100) : IVec S5376 32)
        (broadcastInDim S_ ![] bcast_S_S_ (constantI S_ 32 0#32)) reduceWindows_S5376_S5376_w5376s1p5375_0 h_S_ := by
    after_results
    simp only [TRef.ofBuf, TRef.toBuf, cast_cast, cast_eq, id]
  rw [e]
  exact cumsum1 (N := 5376) (Nm1 := 5375) rfl _ H h _ rfl _ _ j

theorem divided (a : ℕ) (ha : a < 2 ^ 31) (j : Fin 5376) (hc : (V (Proc.devRef .tc main_c_18) : IVec S_ 32) = constantI S_ 32 1#32)
    (h : (V (Proc.devRef .tc main_v101) : IVec S5376 32) (ix1 j) = BitVec.ofNat 32 a) :
    (after hostOps0_9 V (Proc.devRef .tc main_v102) : IVec S5376 32) (ix1 j) = BitVec.ofNat 32 a := by
  have e : (after hostOps0_9 V (Proc.devRef .tc main_v102) : IVec S5376 32)
      = pyDiv (s := S5376) bcast_S_S5376 (V (Proc.devRef .tc main_v101) : IVec S5376 32) (V (Proc.devRef .tc main_c_18) : IVec S_ 32) := by
    after_results
    simp only [TRef.ofBuf, TRef.toBuf, cast_cast, cast_eq, id]
    rfl
  rw [e, pyDiv_ap bcast_S_S5376 _ _ (ix1 j) h (b := 1) (by rw [hc]; rfl) ha (by omega) (by omega), Nat.div_one]

theorem reduced (a : ℕ) (ha : a < 2 ^ 31) (j : Fin 5376) (hc : (V (Proc.devRef .tc main_c_19) : IVec S_ 32) = constantI S_ 32 5376#32)
    (h : (V (Proc.devRef .tc main_v102) : IVec S5376 32) (ix1 j) = BitVec.ofNat 32 a) :
    (after hostOps0_11 V (Proc.devRef .tc main_v103) : IVec S5376 32) (ix1 j) = BitVec.ofNat 32 (a % 5376) := by
  have e : (after hostOps0_11 V (Proc.devRef .tc main_v103) : IVec S5376 32)
      = pyRem (s := S5376) bcast_S_S5376 (V (Proc.devRef .tc main_v102) : IVec S5376 32) (V (Proc.devRef .tc main_c_19) : IVec S_ 32) := by
    after_results
    simp only [TRef.ofBuf, TRef.toBuf, cast_cast, cast_eq, id]
    rfl
  rw [e, pyRem_ap bcast_S_S5376 _ _ (ix1 j) h (b := 5376) (by rw [hc]; rfl) ha (by omega) (by omega)]

theorem counted (P : ℕ → Prop) (h : ∀ i : Fin 5376, (V (Proc.devRef .tc main_v90_4) : IVec S5376 1) (ix1 i) = BitVec.ofBool (decide (P i.val))) (j : Fin 5376) :
    (after hostOps0_12 V (Proc.devRef .tc main_v109) : IVec S5376 1) (ix1 j) = BitVec.ofBool (decide (Nat.count P 5376 ≤ j.val)) := by
  have e : (after hostOps0_12 V (Proc.devRef .tc main_v109) : IVec S5376 1)
      = cmpi .sge (iotaInDim S5376 32 0) (broadcastInDim S5376 ![0] bcast_S1_S5376_0 (broadcastInDim S1 ![] bcast_S_S1
          (Host.reduce IntOp.addi (extui 32 (V (Proc.devRef .tc main_v90_4) : IVec S5376 1) natLt_1_32) (constantI S_ 32 0#32) reducesTo_S5376_S_d0 h_S_))) := by
    after_results
  rw [e]
  have hr : Host.reduce IntOp.addi (extui 32 (V (Proc.devRef .tc main_v90_4) : IVec S5376 1) natLt_1_32) (constantI S_ 32 0#32) reducesTo_S5376_S_d0 h_S_ ix0
      = BitVec.ofNat 32 (Nat.count P 5376) := by
    rw [← sum_bits]
    exact reduce_sum (N := 5376) _ (fun i => if P i then 1 else 0) (fun i => (congrArg (BitVec.setWidth 32) (h i)).trans (bit_word _)) _ _
  exact past _ _ (Nat.count_le P) hr j

theorem filled (p : Prop) [Decidable p] (a : ℕ) (j : Fin 5376) (hp : (V (Proc.devRef .tc main_v109) : IVec S5376 1) (ix1 j) = BitVec.ofBool (decide p))
    (hc : (V (Proc.devRef .tc main_v110) : IVec S1 32) = fun _ => 5376#32) (h : (V (Proc.devRef .tc main_v103) : IVec S5376 32) (ix1 j) = BitVec.ofNat 32 a) :
    (after hostOps0_13 V (Proc.devRef .tc main_v111) : IVec S5376 32) (ix1 j) = BitVec.ofNat 32 (if p then 5376 else a) := by
  have e : (after hostOps0_13 V (Proc.devRef .tc main_v111) : IVec S5376 32)
      = select (V (Proc.devRef .tc main_v109) : IVec S5376 1) (broadcastInDim S5376 ![0] bcast_S1_S5376_0 (V (Proc.devRef .tc main_v110) : IVec S1 32)) (V (Proc.devRef .tc main_v103) : IVec S5376 32) := by
    after_results
    simp only [TRef.ofBuf, TRef.toBuf, cast_cast, cast_eq, id]
  rw [e]
  show Scalar.select ((V (Proc.devRef .tc main_v109) : IVec S5376 1) (ix1 j)) ((V (Proc.devRef .tc main_v110) : IVec S1 32) _) ((V (Proc.devRef .tc main_v103) : IVec S5376 32) (ix1 j)) = _
  rw [hp, h, hc]
  by_cases hq : p
  · rw [if_pos hq, decide_eq_true hq]; rfl
  · rw [if_neg hq, decide_eq_false hq]; rfl

/-- The first 300 positions, and whether each is a candidate's. -/
theorem first_places (s : Fin 300) :
    (after hostOps0_14 V (Proc.devRef .tc main_v112) : IVec S300 32) (ix1 s) = (V (Proc.devRef .tc main_v111) : IVec S5376 32) (ix1 ⟨s.val, by omega⟩) := by
  have e : (after hostOps0_14 V (Proc.devRef .tc main_v112) : IVec S300 32)
      = extractStridedSlice S300 ![0] (V (Proc.devRef .tc main_v111) : IVec S5376 32) slices_S5376_S300_0 := by
    after_results
  rw [e]
  exact congrArg (V (Proc.devRef .tc main_v111) : IVec S5376 32) (funext fun a => by fin_cases a; exact Fin.ext (Nat.zero_add _))

/-- Whether a position is a candidate's, as a bit. -/
theorem real_places (s : Fin 300) (n : ℕ) (hn : n ≤ 5376) (h : (V (Proc.devRef .tc main_v111) : IVec S5376 32) (ix1 ⟨s.val, by omega⟩) = BitVec.ofNat 32 n) :
    (after hostOps0_14 V (Proc.devRef .tc main_v114) : IVec S300 1) (ix1 s) = BitVec.ofBool (decide (n < 5376)) := by
  have e : (after hostOps0_14 V (Proc.devRef .tc main_v114) : IVec S300 1)
      = cmpi .slt (extractStridedSlice S300 ![0] (V (Proc.devRef .tc main_v111) : IVec S5376 32) slices_S5376_S300_0)
          (broadcastInDim S300 ![] bcast_S_S300 (constantI S_ 32 5376#32)) := by
    after_results
  have hx : extractStridedSlice S300 ![0] (V (Proc.devRef .tc main_v111) : IVec S5376 32) slices_S5376_S300_0 (ix1 s) = BitVec.ofNat 32 n :=
    (congrArg (V (Proc.devRef .tc main_v111) : IVec S5376 32) (funext fun a => by fin_cases a; exact Fin.ext (Nat.zero_add _))).trans h
  rw [e, cmpi_apply, hx]
  show BitVec.ofBool (BitVec.slt (BitVec.ofNat 32 n) (BitVec.ofNat 32 5376)) = _
  simp only [BitVec.slt, toInt_ofNat_of_lt (show n < 2 ^ 31 by omega), toInt_ofNat_of_lt (show 5376 < 2 ^ 31 by omega)]
  congr 1
  simp

theorem clipped (s : Fin 300) (n : ℕ) (hn : n ≤ 5376) (h : (V (Proc.devRef .tc main_v112) : IVec S300 32) (ix1 s) = BitVec.ofNat 32 n)
    (h0 : (V (Proc.devRef .tc main_c_23) : IVec S_ 32) = constantI S_ 32 0#32) (h1 : (V (Proc.devRef .tc main_c_24) : IVec S_ 32) = constantI S_ 32 5375#32) :
    (after hostOps0_15 V (Proc.devRef .tc main_v115) : IVec S300 32) (ix1 s) = BitVec.ofNat 32 (min n 5375) := by
  have e : (after hostOps0_15 V (Proc.devRef .tc main_v115) : IVec S300 32)
      = minsi (broadcastInDim S300 ![] bcast_S_S300 (V (Proc.devRef .tc main_c_24) : IVec S_ 32))
          (maxsi (broadcastInDim S300 ![] bcast_S_S300 (V (Proc.devRef .tc main_c_23) : IVec S_ 32)) (V (Proc.devRef .tc main_v112) : IVec S300 32)) := by
    after_results
    simp only [TRef.ofBuf, TRef.toBuf, cast_cast, cast_eq, id]
  rw [e, h0, h1]
  show IntOp.minsi 5375#32 (IntOp.maxsi 0#32 ((V (Proc.devRef .tc main_v112) : IVec S300 32) (ix1 s))) = _
  rw [h, maxsi_zero_left (by omega), show (5375#32 : BitVec 32) = BitVec.ofNat 32 5375 from rfl]
  unfold IntOp.minsi
  simp only [BitVec.slt, BitVec.sle, toInt_ofNat_of_lt (show n < 2 ^ 31 by omega), toInt_ofNat_of_lt (show 5375 < 2 ^ 31 by omega)]
  by_cases hq : 5375 < n
  · have : min n 5375 = 5375 := by omega
    rw [this]; simp; omega
  · have : min n 5375 = n := by omega
    rw [this]; simp; omega

theorem column_short (x : IVec S300 32) (i : Fin 300) : broadcastInDim S300x1 ![0] bcast_S300_S300x1_0 x (ix2 i (0 : Fin 1)) = x (ix1 i) :=
  congrArg x (funext fun a => by fin_cases a; rfl)

end Cert.SelectReference
end
-- ==== Proof.SelectTail.lean ====
module
public import proofs.«01_k».proof.Proof.SelectChain
public import proofs.«01_k».proof.Proof.Packed
@[expose] public section
set_option maxRecDepth 65536
noncomputable section
/-! What the reference makes of the kept bits: box, class and score of the first 300 kept candidates. -/
namespace Cert.SelectReference
open Cert.SelectRefIdeal Cert.SelectRefIdeal.Gen Cert.SelectRefIdeal.Value
open Idealize Idealize.ShloMosaic Idealize.ShloMosaic.TcCoe Idealize.ShloMosaic.Tactic
open Idealize.ShloMosaic.StableHlo Idealize.ShloMosaic.Routing
open Idealize.SL.Sem Cert.Sweep
open scoped Classical

variable (V : Valuation τ sig (Elt Ideal))

abbrev upTo7 : Valuation τ sig (Elt Ideal) :=
  after hostOps0_11 (after hostOps0_10 (after hostOps0_9 (after hostOps0_8 (after hostOps0_7 (after hostOps0_6 (after hostOps0_5 V))))))
abbrev upTo11 (W : Valuation τ sig (Elt Ideal)) : Valuation τ sig (Elt Ideal) :=
  after hostOps0_15 (after hostOps0_14 (after hostOps0_13 (after hostOps0_12 W)))

theorem bits_kept : upTo7 V (Proc.devRef .tc main_v90_4) = V (Proc.devRef .tc main_v90_4) := by
  after_results

/-- What the candidates' values, corners and order are past the loop: what they were before it. -/
theorem kept_past (b : Ref sig .tc) (h7 : upTo7 V (Proc.devRef .tc b) = V (Proc.devRef .tc b))
    (h11 : ∀ W : Valuation τ sig (Elt Ideal), upTo11 W (Proc.devRef .tc b) = W (Proc.devRef .tc b)) :
    upTo11 (upTo7 V) (Proc.devRef .tc b) = V (Proc.devRef .tc b) := (h11 _).trans h7

theorem kind_past : upTo11 (upTo7 V) (Proc.devRef .tc main_v3) = V (Proc.devRef .tc main_v3) :=
  kept_past V _ (by after_results) fun W => by after_results

theorem best_past : upTo11 (upTo7 V) (Proc.devRef .tc main_v4) = V (Proc.devRef .tc main_v4) :=
  kept_past V _ (by after_results) fun W => by after_results

theorem corners_past : upTo11 (upTo7 V) (Proc.devRef .tc main_v23) = V (Proc.devRef .tc main_v23) :=
  kept_past V _ (by after_results) fun W => by after_results

theorem order_past : upTo11 (upTo7 V) (Proc.devRef .tc main_v25) = V (Proc.devRef .tc main_v25) :=
  kept_past V _ (by after_results) fun W => by after_results

theorem input_past : afterL postI V (Proc.devRef .tc main_arg0) = V (Proc.devRef .tc main_arg0) := by
  simp only [afterL_cons, afterL_nil]
  have h16 : ∀ W : Valuation τ sig (Elt Ideal), after hostOps0_16 W (Proc.devRef .tc main_arg0) = W (Proc.devRef .tc main_arg0) := fun W => by after_results
  exact (h16 _).trans (kept_past V main_arg0 (by after_results) fun W => by after_results)

variable [Cert.SelectIdeal.Facts] (X : FVec Ideal Cert.SelectIdeal.S5376x40 .f32)

abbrev spot (j : ℕ) : ℕ := if Nat.count (keptAt X) 5376 ≤ j then 5376 else place (keptAt X) 5376 j

theorem spot_le (j : ℕ) : spot X j ≤ 5376 := by
  unfold spot
  split
  · exact le_rfl
  · exact Nat.count_le _

theorem spot_lt (j : ℕ) : spot X j < 5376 ↔ j < Nat.count (keptAt X) 5376 := by
  unfold spot
  split
  · omega
  · rename_i h
    have := place_lt (P := keptAt X) (n := 5376) (s := j) (by omega)
    omega

theorem places7 (h : ∀ i : Fin 5376, (V (Proc.devRef .tc main_v90_4) : IVec S5376 1) (ix1 i) = BitVec.ofBool (decide (keptAt X i.val))) (j : Fin 5376) :
    (upTo7 V (Proc.devRef .tc main_v103) : IVec S5376 32) (ix1 j) = BitVec.ofNat 32 (place (keptAt X) 5376 j.val % 5376) := by
  have h1 := running V (keptAt X) h
  have h2 := totals _ (keptAt X) h1
  have h3 := places _ (fun y => Nat.count (fun i => Nat.count (keptAt X) (i + 1) = y) 5376) h2 j
  rw [sum_count_eq (fun i => Nat.count (keptAt X) (i + 1)) j.val 5376] at h3
  have hp : Nat.count (fun i => Nat.count (keptAt X) (i + 1) ≤ j.val) 5376 < 2 ^ 31 := lt_of_le_of_lt (Nat.count_le _) (by omega)
  have k4 : ∀ W : Valuation τ sig (Elt Ideal), after hostOps0_8 W (Proc.devRef .tc main_v101) = W (Proc.devRef .tc main_v101) := fun W => by after_results
  have c4 : ∀ W : Valuation τ sig (Elt Ideal), after hostOps0_8 W (Proc.devRef .tc main_c_18) = constantI S_ 32 1#32 := fun W => by after_results
  have k6 : ∀ W : Valuation τ sig (Elt Ideal), after hostOps0_10 W (Proc.devRef .tc main_v102) = W (Proc.devRef .tc main_v102) := fun W => by after_results
  have c6 : ∀ W : Valuation τ sig (Elt Ideal), after hostOps0_10 W (Proc.devRef .tc main_c_19) = constantI S_ 32 5376#32 := fun W => by after_results
  have h5 := divided _ _ hp j (c4 _) ((congrFun (k4 _) (ix1 j)).trans h3)
  exact reduced _ _ hp j (c6 _) ((congrFun (k6 _) (ix1 j)).trans h5)

theorem spots (W : Valuation τ sig (Elt Ideal)) (h : ∀ i : Fin 5376, (W (Proc.devRef .tc main_v90_4) : IVec S5376 1) (ix1 i) = BitVec.ofBool (decide (keptAt X i.val)))
    (hp : ∀ j : Fin 5376, (W (Proc.devRef .tc main_v103) : IVec S5376 32) (ix1 j) = BitVec.ofNat 32 (place (keptAt X) 5376 j.val % 5376)) (j : Fin 5376) :
    (after hostOps0_13 (after hostOps0_12 W) (Proc.devRef .tc main_v111) : IVec S5376 32) (ix1 j) = BitVec.ofNat 32 (spot X j.val) := by
  have h8 := counted W (keptAt X) h j
  have k8 : after hostOps0_12 W (Proc.devRef .tc main_v103) = W (Proc.devRef .tc main_v103) := by after_results
  have c8 : (after hostOps0_12 W (Proc.devRef .tc main_v110) : IVec S1 32) = fun _ => 5376#32 := by
    after_results
    rfl
  refine (filled _ _ _ j h8 c8 ((congrFun k8 (ix1 j)).trans (hp j))).trans (congrArg _ ?_)
  unfold spot
  split
  · rfl
  · rename_i hn
    exact Nat.mod_eq_of_lt (place_lt (by omega))

/-- Positions counted from the end when negative, as a column. -/
def wrapShort (x : IVec S300 32) : IVec S300x1 32 :=
  broadcastInDim S300x1 ![0] bcast_S300_S300x1_0
    (select (cmpi .slt x (broadcastInDim S300 ![] bcast_S_S300 (constantI S_ 32 0#32)))
      (addi x (broadcastInDim S300 ![] bcast_S_S300 (constantI S_ 32 5376#32))) x)

theorem wrapShort_at (x : IVec S300 32) (s : Fin 300) (n : Fin 5376) (h : x (ix1 s) = BitVec.ofNat 32 n.val) :
    wrapShort x (ix2 s (0 : Fin 1)) = BitVec.ofNat 32 n.val :=
  (column_short _ s).trans (wrapped bcast_S_S300 x _ (ix1 s) (by have := n.isLt; omega) h)

/-- The candidates at given positions of an order. -/
def picked (o : IVec S5376 32) (x : IVec S300 32) : IVec S300 32 := Host.gather gather_S5376_S300x1_S300_n_0_n_n_0_1_1 o (wrapShort x)

variable (B : FVec Ideal S1x40x5376 .f32)

theorem row_at (C : FVec Ideal S5376x4 .f32) (x : IVec S300 32) (s : Fin 300) (d : Fin 4) (n : Fin 5376) (h : x (ix1 s) = BitVec.ofNat 32 n.val) :
    Host.gather gather_S5376x4_S300x1_S300x4_1_0_n_n_0_1_14 C (wrapShort x) (ix2 s d) = C (ix2 n d) :=
  gather_row (nb := 5376) (B := 4) (n := 300) _ rfl rfl rfl rfl rfl _ _ s d n (wrapShort_at x s n h) (by omega)

theorem entry_at {α : Type} (b : S5376.Idx → α) (x : IVec S300 32) (s : Fin 300) (n : Fin 5376) (h : x (ix1 s) = BitVec.ofNat 32 n.val) :
    Host.gather gather_S5376_S300x1_S300_n_0_n_n_0_1_1 b (wrapShort x) (ix1 s) = b (ix1 n) :=
  gather_take1 _ rfl rfl rfl rfl _ _ s n (wrapShort_at x s n h) (by omega)

theorem picked_at (x : IVec S300 32) (s : Fin 300) (n : Fin 5376) (h : x (ix1 s) = BitVec.ofNat 32 n.val) :
    picked (Cert.Sweep.order B) x (ix1 s) = BitVec.ofNat 32 (rowAt B n).val :=
  (gather_take1 _ rfl rfl rfl rfl _ _ s n (wrapShort_at x s n h) (by omega)).trans (rowAt_word B n)

theorem bit_factor (v : IVec S300 1) (s : Fin 300) (p : Prop) [Decidable p] (h : v (ix1 s) = BitVec.ofBool (decide p)) :
    uitofp (F := Ideal) .f32 v (ix1 s) = if p then (1 : EReal) else 0 := by
  rw [uitofp_apply, h]
  by_cases hq : p
  · rw [if_pos hq, decide_eq_true hq]; show ((1 : ℕ) : EReal) = 1; simp
  · rw [if_neg hq, decide_eq_false hq]; show ((0 : ℕ) : EReal) = 0; simp

theorem last_boxes (W : Valuation τ sig (Elt Ideal)) :
    (after hostOps0_16 W (Proc.devRef .tc main_v133) : FVec Ideal S300x4 .f32)
      = mulf (F := Ideal) (φ := .f32) (Host.gather gather_S5376x4_S300x1_S300x4_1_0_n_n_0_1_14 (W (Proc.devRef .tc main_v23) : FVec Ideal S5376x4 .f32)
            (wrapShort (picked (W (Proc.devRef .tc main_v25) : IVec S5376 32) (W (Proc.devRef .tc main_v115) : IVec S300 32))))
          (broadcastInDim S300x4 ![0, 1] bcast_S300x1_S300x4_0_1 (broadcastInDim S300x1 ![0] bcast_S300_S300x1_0
            (uitofp (F := Ideal) .f32 (W (Proc.devRef .tc main_v114) : IVec S300 1)))) := by
  after_results
  rfl

theorem last_kinds (W : Valuation τ sig (Elt Ideal)) :
    (after hostOps0_16 W (Proc.devRef .tc main_v143) : FVec Ideal S300x1 .f32)
      = broadcastInDim S300x1 ![0] bcast_S300_S300x1_0 (mulf (F := Ideal) (φ := .f32)
          (sitofp (F := Ideal) .f32 (Host.gather gather_S5376_S300x1_S300_n_0_n_n_0_1_1 (W (Proc.devRef .tc main_v3) : IVec S5376 32)
            (wrapShort (picked (W (Proc.devRef .tc main_v25) : IVec S5376 32) (W (Proc.devRef .tc main_v115) : IVec S300 32)))))
          (uitofp (F := Ideal) .f32 (W (Proc.devRef .tc main_v114) : IVec S300 1))) := by
  after_results
  rfl

theorem last_scores (W : Valuation τ sig (Elt Ideal)) :
    (after hostOps0_16 W (Proc.devRef .tc main_v152) : FVec Ideal S300x1 .f32)
      = broadcastInDim S300x1 ![0] bcast_S300_S300x1_0 (mulf (F := Ideal) (φ := .f32)
          (Host.gather gather_S5376_S300x1_S300_n_0_n_n_0_1_1 (W (Proc.devRef .tc main_v4) : FVec Ideal S5376 .f32)
            (wrapShort (picked (W (Proc.devRef .tc main_v25) : IVec S5376 32) (W (Proc.devRef .tc main_v115) : IVec S300 32))))
          (uitofp (F := Ideal) .f32 (W (Proc.devRef .tc main_v114) : IVec S300 1))) := by
  after_results
  rfl

theorem spread (x : FVec Ideal S300 .f32) (s : Fin 300) (d : Fin 4) :
    broadcastInDim S300x4 ![0, 1] bcast_S300x1_S300x4_0_1 (broadcastInDim S300x1 ![0] bcast_S300_S300x1_0 x) (ix2 s d) = x (ix1 s) :=
  congrArg x (funext fun a => by fin_cases a; rfl)

theorem upright (x : FVec Ideal S300 .f32) (s : Fin 300) : broadcastInDim S300x1 ![0] bcast_S300_S300x1_0 x (ix2 s (0 : Fin 1)) = x (ix1 s) :=
  congrArg x (funext fun a => by fin_cases a; rfl)

/-- Slot by slot: the value of the chosen candidate, or zero where none is left, is the selected rows' entry. -/
theorem slot_value (s : Fin 300) (d : Fin 40) (v : Fin 5376 → EReal) (hv : ∀ n, v (rowAt B n) = packed B (ix2 (rowAt B n) d)) :
    v (rowAt B ⟨min (spot (sorted B) s.val) 5375, by omega⟩) * (if spot (sorted B) s.val < 5376 then (1 : EReal) else 0) = slotRow (sorted B) s.val d := by
  unfold slotRow
  rw [hv, ← sorted_at]
  by_cases hk : s.val < Nat.count (keptAt (sorted B)) 5376
  · have hl := (spot_lt (sorted B) s.val).2 hk
    rw [dif_pos ⟨s.isLt, hk⟩, if_pos hl, mul_one]
    refine congrArg (fun a => sorted B (ix2 a d)) (Fin.ext ?_)
    show min (spot (sorted B) s.val) 5375 = place (keptAt (sorted B)) 5376 s.val
    rw [min_eq_left (by omega)]
    exact if_neg (by omega)
  · rw [dif_neg (fun q => hk q.2), if_neg (fun q => hk ((spot_lt (sorted B) _).1 q)), mul_zero]

/-- Before the last stretch: every slot's position, clipped, and whether it is a candidate's. -/
theorem slots (h : ∀ i : Fin 5376, (V (Proc.devRef .tc main_v90_4) : IVec S5376 1) (ix1 i) = BitVec.ofBool (decide (keptAt X i.val))) (s : Fin 300) :
    (upTo11 (upTo7 V) (Proc.devRef .tc main_v115) : IVec S300 32) (ix1 s) = BitVec.ofNat 32 (min (spot X s.val) 5375)
      ∧ (upTo11 (upTo7 V) (Proc.devRef .tc main_v114) : IVec S300 1) (ix1 s) = BitVec.ofBool (decide (spot X s.val < 5376)) := by
  have h9 := spots X (upTo7 V) (fun i => (congrFun (bits_kept V) (ix1 i)).trans (h i)) (places7 V X h)
  have c10 : ∀ W : Valuation τ sig (Elt Ideal), after hostOps0_14 W (Proc.devRef .tc main_c_23) = constantI S_ 32 0#32 := fun W => by after_results
  have d10 : ∀ W : Valuation τ sig (Elt Ideal), after hostOps0_14 W (Proc.devRef .tc main_c_24) = constantI S_ 32 5375#32 := fun W => by after_results
  have k11 : ∀ W : Valuation τ sig (Elt Ideal), after hostOps0_15 W (Proc.devRef .tc main_v114) = W (Proc.devRef .tc main_v114) := fun W => by after_results
  have hn := spot_le X s.val
  have h10 := (first_places _ s).trans (h9 ⟨s.val, by omega⟩)
  exact ⟨clipped _ s _ hn h10 (c10 _) (d10 _), (congrFun (k11 _) _).trans (real_places _ s _ hn (h9 ⟨s.val, by omega⟩))⟩

variable (W : Valuation τ sig (Elt Ideal)) (hO : (W (Proc.devRef .tc main_v25) : IVec S5376 32) = Cert.Sweep.order B)
  (hS : ∀ s : Fin 300, (W (Proc.devRef .tc main_v115) : IVec S300 32) (ix1 s) = BitVec.ofNat 32 (min (spot (sorted B) s.val) 5375))
  (hR : ∀ s : Fin 300, (W (Proc.devRef .tc main_v114) : IVec S300 1) (ix1 s) = BitVec.ofBool (decide (spot (sorted B) s.val < 5376)))

include hO hS hR

theorem picked_slot (s : Fin 300) : picked (W (Proc.devRef .tc main_v25) : IVec S5376 32) (W (Proc.devRef .tc main_v115) : IVec S300 32) (ix1 s)
    = BitVec.ofNat 32 (rowAt B ⟨min (spot (sorted B) s.val) 5375, by omega⟩).val := by
  rw [hO]
  exact picked_at B _ s ⟨min (spot (sorted B) s.val) 5375, by omega⟩ (hS s)

theorem chosen_boxes (hC : (W (Proc.devRef .tc main_v23) : FVec Ideal S5376x4 .f32) = corners B) (s : Fin 300) (d : Fin 4) :
    (after hostOps0_16 W (Proc.devRef .tc main_v133) : FVec Ideal S300x4 .f32) (ix2 s d) = slotRow (sorted B) s.val ⟨d.val, by omega⟩ := by
  have hp := picked_slot B W hO hS hR s
  rw [last_boxes, hC, mulf_apply, spread, bit_factor _ s _ (hR s), row_at _ _ s d _ hp]
  exact slot_value B s ⟨d.val, by omega⟩ (fun n => corners B (ix2 n d)) fun n => (packed_corner B _ d).symm

theorem chosen_kinds (hK : (W (Proc.devRef .tc main_v3) : IVec S5376 32) = kind B) (s : Fin 300) :
    (after hostOps0_16 W (Proc.devRef .tc main_v143) : FVec Ideal S300x1 .f32) (ix2 s (0 : Fin 1)) = slotRow (sorted B) s.val 5 := by
  have hp := picked_slot B W hO hS hR s
  have hk := congrArg (FloatOps.sitofp (F := Ideal) FTy.f32) (entry_at (kind B) _ s _ hp)
  rw [last_kinds, hK, upright, mulf_apply, bit_factor _ s _ (hR s)]
  refine Eq.trans (congrArg (· * _) hk) ?_
  exact slot_value B s 5 (fun n => sitofp (F := Ideal) .f32 (kind B) (ix1 n)) fun n => (packed_kind B _).symm

theorem chosen_scores (hM : (W (Proc.devRef .tc main_v4) : FVec Ideal S5376 .f32) = best B) (s : Fin 300) :
    (after hostOps0_16 W (Proc.devRef .tc main_v152) : FVec Ideal S300x1 .f32) (ix2 s (0 : Fin 1)) = slotRow (sorted B) s.val 4 := by
  have hp := picked_slot B W hO hS hR s
  rw [last_scores, hM, upright, mulf_apply, bit_factor _ s _ (hR s), entry_at _ _ s _ hp]
  exact slot_value B s 4 (fun n => best B (ix1 n)) fun n => (packed_best B _).symm

end Cert.SelectReference
end
-- ==== Proof.SelectEntry.lean ====
module
public import proofs.«01_k».proof.Proof.Suppress
public import proofs.«01_k».proof.Proof.Gen.SelectRefIdeal.Run
public import proofs.«01_k».proof.Proof.Packed
public import proofs.«01_k».proof.Proof.SelectChain
public import Idealize.ShloMosaic.Lib.DynamicIndex
@[expose] public section
set_option maxRecDepth 100000
noncomputable section
/-! What the reference's host code computes before its loop: corners, scores, classes and order of the candidates, the
ratio of shared to joint area of two of them in that order, and which score enough. -/
namespace Cert.SelectReference
open Cert.SelectRefIdeal Cert.SelectRefIdeal.Gen Cert.SelectRefIdeal.Value
open Idealize Idealize.ShloMosaic Idealize.ShloMosaic.TcCoe Idealize.ShloMosaic.Tactic
open Idealize.ShloMosaic.StableHlo Idealize.ShloMosaic.Routing
open Idealize.SL.Sem
open Cert.Sweep (fields classes best kind extents halves centres swaps ends corners packed wrapCol sorted order_word rowAt rowAt_word
  wrapCol_at sorted_at packed_corner packed_best packed_kind shared joint enters side)
open scoped Classical

variable (W : Valuation τ sig (Elt Ideal)) (B : FVec Ideal S1x40x5376 .f32)

abbrev boxRows : FVec Ideal S4x5376 .f32 := extractStridedSlice S4x5376 ![0, 0] (fields B) slices_S40x5376_S4x5376_0_0

theorem first_classes : (after hostOps0 W (Proc.devRef .tc main_v1) : FVec Ideal S4x5376 .f32) = classes (W (Proc.devRef .tc main_arg0)) := by
  after_results
  rfl

theorem first_boxes : (after hostOps0 W (Proc.devRef .tc main_v2) : FVec Ideal S4x5376 .f32) = boxRows (W (Proc.devRef .tc main_arg0)) := by
  after_results
  rfl

theorem first_swaps : (after hostOps0 W (Proc.devRef .tc main_c) : IVec S4 32) = fun i => Cert.SelectIdeal.lit0 (S4.rowMajor i) := by
  after_results
  rfl

theorem second_kind (h : (W (Proc.devRef .tc main_v1) : FVec Ideal S4x5376 .f32) = classes B) :
    (after hostOps0_1 W (Proc.devRef .tc main_v3) : IVec S5376 32) = kind B := by
  after_results
  simp only [TRef.ofBuf, TRef.toBuf, cast_cast, cast_eq, id]
  unfold kind
  rw [← h]
  rfl

theorem third_best (h : (W (Proc.devRef .tc main_v1) : FVec Ideal S4x5376 .f32) = classes B) :
    (after hostOps0_2 W (Proc.devRef .tc main_v4) : FVec Ideal S5376 .f32) = best B := by
  unfold best
  rw [← h]
  after_results

theorem third_negated (h : (W (Proc.devRef .tc main_v1) : FVec Ideal S4x5376 .f32) = classes B) :
    (after hostOps0_2 W (Proc.devRef .tc main_v24) : FVec Ideal S5376 .f32) = Host.negf (F := Ideal) (φ := .f32) (best B) := by
  unfold best
  rw [← h]
  after_results

theorem third_corners (h : (W (Proc.devRef .tc main_v2) : FVec Ideal S4x5376 .f32) = boxRows B)
    (hc : (W (Proc.devRef .tc main_c) : IVec S4 32) = fun i => Cert.SelectIdeal.lit0 (S4.rowMajor i)) :
    (after hostOps0_2 W (Proc.devRef .tc main_v23) : FVec Ideal S5376x4 .f32) = corners B := by
  after_results
  unfold corners ends centres halves extents swaps
  rw [← hc, show extractStridedSlice S4x5376 ![0, 0] (fields B) slices_S40x5376_S4x5376_0_0 = _ from h.symm]
  rfl

theorem fourth_order (h : (W (Proc.devRef .tc main_v24) : FVec Ideal S5376 .f32) = Host.negf (F := Ideal) (φ := .f32) (best B)) :
    (after hostOps0_3 W (Proc.devRef .tc main_v25) : IVec S5376 32) = Cert.Sweep.order B := by
  after_results
  simp only [TRef.ofBuf, TRef.toBuf, cast_cast, cast_eq, id]
  unfold Cert.Sweep.order
  rw [← h]
  rfl

/-- Corners of the candidates in order are the first four columns of the rows, and their scores the fifth. -/
theorem sorted_corner (o : IVec S5376 32) (C : FVec Ideal S5376x4 .f32) (ho : o = Cert.Sweep.order B) (hC : C = corners B) (i : Fin 5376) (k : Fin 4) :
    Host.gather gather_S5376x4_S5376x1_S5376x4_1_0_n_n_0_1_14 C (wrapCol o) (ix2 i k) = sorted B (ix2 i ⟨k.val, by omega⟩) := by
  subst ho hC
  exact (gather_row (nb := 5376) (B := 4) (n := 5376) _ rfl rfl rfl rfl rfl _ _ i k (rowAt B i) (wrapCol_at _ i _ (rowAt_word B i)) (by omega)).trans
    ((packed_corner B _ k).symm.trans (sorted_at B i _).symm)

theorem sorted_score (o : IVec S5376 32) (b : FVec Ideal S5376 .f32) (ho : o = Cert.Sweep.order B) (hb : b = best B) (i : Fin 5376) :
    Host.gather gather_S5376_S5376x1_S5376_n_0_n_n_0_1_1 b (wrapCol o) (ix1 i) = sorted B (ix2 i 4) := by
  subst ho hb
  exact (gather_take1 _ rfl rfl rfl rfl _ _ i (rowAt B i) (wrapCol_at _ i _ (rowAt_word B i)) (by omega)).trans
    ((packed_best B _).symm.trans (sorted_at B i _).symm)

variable [Cert.SelectIdeal.Facts]

/-- The ratio of areas reads the corners alone. -/
theorem corners_ratio (C : FVec Ideal S5376x4 .f32) (X : FVec Ideal Cert.SelectIdeal.S5376x40 .f32) (hC : ∀ (i : Fin 5376) (k : Fin 4), C (ix2 i k) = X (ix2 i ⟨k.val, by omega⟩))
    (i j : Fin 5376) :
    Ideal.div (side (C (ix2 i 0)) (C (ix2 i 2)) (C (ix2 j 0)) (C (ix2 j 2)) * side (C (ix2 i 1)) (C (ix2 i 3)) (C (ix2 j 1)) (C (ix2 j 3)))
      ((C (ix2 i 2) - C (ix2 i 0)) * (C (ix2 i 3) - C (ix2 i 1)) + (C (ix2 j 2) - C (ix2 j 0)) * (C (ix2 j 3) - C (ix2 j 1))
        - side (C (ix2 i 0)) (C (ix2 i 2)) (C (ix2 j 0)) (C (ix2 j 2)) * side (C (ix2 i 1)) (C (ix2 i 3)) (C (ix2 j 1)) (C (ix2 j 3))
        + Ideal.ofBits FTy.f32 0x3089705F) = Ideal.div (shared X i j) (joint X i j) := by
  simp only [hC]
  rfl

theorem fifth_ratio (h23 : (W (Proc.devRef .tc main_v23) : FVec Ideal S5376x4 .f32) = corners B) (h25 : (W (Proc.devRef .tc main_v25) : IVec S5376 32) = Cert.Sweep.order B)
    (i j : Fin 5376) : (after hostOps0_4 W (Proc.devRef .tc main_v90_0) : FVec Ideal S5376x5376 .f32) (ix2 i j)
      = Ideal.div (shared (sorted B) i j) (joint (sorted B) i j) := by
  have hb := sorted_corner B _ _ h25 h23
  unfold wrapCol at hb
  after_results
  generalize Host.gather gather_S5376x4_S5376x1_S5376x4_1_0_n_n_0_1_14 (W (Proc.devRef .tc main_v23) : FVec Ideal S5376x4 .f32) _ = bs at hb ⊢
  rw [← corners_ratio bs (sorted B) hb i j]
  clear hb
  rw [id_eq]
  pointwise []
  rfl

theorem fifth_scores (h4 : (W (Proc.devRef .tc main_v4) : FVec Ideal S5376 .f32) = best B) (h25 : (W (Proc.devRef .tc main_v25) : IVec S5376 32) = Cert.Sweep.order B)
    (j : Fin 5376) : (after hostOps0_4 W (Proc.devRef .tc main_v90_4) : IVec S5376 1) (ix1 j) = BitVec.ofBool (decide (enters (sorted B) j)) := by
  have hb := sorted_score B _ _ h25 h4
  unfold wrapCol at hb
  after_results
  generalize Host.gather gather_S5376_S5376x1_S5376_n_0_n_n_0_1_1 (W (Proc.devRef .tc main_v4) : FVec Ideal S5376 .f32) _ = ss at hb ⊢
  refine Eq.trans (b := BitVec.ofBool (decide (Ideal.ofBits FTy.f32 0x3E800000 ≤ ss (ix1 j)))) ?_ (by rw [hb j]; exact congrArg BitVec.ofBool (decide_eq_decide.2 Iff.rfl))
  clear hb
  rw [id_eq]
  pointwise []
  exact congrArg BitVec.ofBool (decide_eq_decide.2 Iff.rfl)

theorem fifth_numbers : (after hostOps0_4 W (Proc.devRef .tc main_v90_1) : IVec S5376 32) = iotaInDim S5376 32 0 := by
  after_results
  rfl

theorem fifth_trip : (after hostOps0_4 W (Proc.devRef .tc main_v90_3) : IVec S_ 32) = constantI S_ 32 0#32 := by
  after_results
  rfl

variable (m : (ℓ : Loc nD τ sig) → Buf (Elt Ideal) ℓ) (c : Dev nD)

abbrev inputOf : FVec Ideal S1x40x5376 .f32 := launchContents m c (Proc.devRef .tc main_arg0)
abbrev rowsOf : FVec Ideal Cert.SelectIdeal.S5376x40 .f32 := sorted (inputOf m c)

abbrev upTo1 (V : Valuation τ sig (Elt Ideal)) : Valuation τ sig (Elt Ideal) := after hostOps0_1 (after hostOps0 V)
abbrev upTo2 (V : Valuation τ sig (Elt Ideal)) : Valuation τ sig (Elt Ideal) := after hostOps0_2 (upTo1 V)
abbrev upTo3 (V : Valuation τ sig (Elt Ideal)) : Valuation τ sig (Elt Ideal) := after hostOps0_3 (upTo2 V)

theorem entry_unfolded : entryContents preI m c = after hostOps0_4 (upTo3 (launchContents m c)) := by
  simp only [entryContents, afterL_cons, afterL_nil]

theorem kind_at2 : (upTo1 (launchContents m c) (Proc.devRef .tc main_v3) : IVec S5376 32) = kind (inputOf m c) :=
  second_kind _ _ (first_classes _)

theorem classes_at2 : (upTo1 (launchContents m c) (Proc.devRef .tc main_v1) : FVec Ideal S4x5376 .f32) = classes (inputOf m c) :=
  (after_of_writes_sub hostOps0_1 _ hostOps0_1_writes (by decide +kernel)).trans (first_classes _)

theorem boxes_at2 : (upTo1 (launchContents m c) (Proc.devRef .tc main_v2) : FVec Ideal S4x5376 .f32) = boxRows (inputOf m c) :=
  (after_of_writes_sub hostOps0_1 _ hostOps0_1_writes (by decide +kernel)).trans (first_boxes _)

theorem swaps_at2 : (upTo1 (launchContents m c) (Proc.devRef .tc main_c) : IVec S4 32) = fun i => Cert.SelectIdeal.lit0 (S4.rowMajor i) :=
  (after_of_writes_sub hostOps0_1 _ hostOps0_1_writes (by decide +kernel)).trans (first_swaps _)

theorem best_at4 : (upTo3 (launchContents m c) (Proc.devRef .tc main_v4) : FVec Ideal S5376 .f32) = best (inputOf m c) :=
  (after_of_writes_sub hostOps0_3 _ hostOps0_3_writes (by decide +kernel)).trans (third_best _ _ (classes_at2 m c))

theorem corners_at4 : (upTo3 (launchContents m c) (Proc.devRef .tc main_v23) : FVec Ideal S5376x4 .f32) = corners (inputOf m c) :=
  (after_of_writes_sub hostOps0_3 _ hostOps0_3_writes (by decide +kernel)).trans (third_corners _ _ (boxes_at2 m c) (swaps_at2 m c))

theorem order_at4 : (upTo3 (launchContents m c) (Proc.devRef .tc main_v25) : IVec S5376 32) = Cert.Sweep.order (inputOf m c) :=
  fourth_order _ _ (third_negated _ _ (classes_at2 m c))

theorem entry_kind : (entryContents preI m c (Proc.devRef .tc main_v3) : IVec S5376 32) = kind (inputOf m c) := by
  rw [entry_unfolded]
  exact (after_of_writes_sub hostOps0_4 _ hostOps0_4_writes (by decide +kernel)).trans
    ((after_of_writes_sub hostOps0_3 _ hostOps0_3_writes (by decide +kernel)).trans
      ((after_of_writes_sub hostOps0_2 _ hostOps0_2_writes (by decide +kernel)).trans (kind_at2 m c)))

theorem entry_best : (entryContents preI m c (Proc.devRef .tc main_v4) : FVec Ideal S5376 .f32) = best (inputOf m c) := by
  rw [entry_unfolded]
  exact (after_of_writes_sub hostOps0_4 _ hostOps0_4_writes (by decide +kernel)).trans (best_at4 m c)

theorem entry_corners : (entryContents preI m c (Proc.devRef .tc main_v23) : FVec Ideal S5376x4 .f32) = corners (inputOf m c) := by
  rw [entry_unfolded]
  exact (after_of_writes_sub hostOps0_4 _ hostOps0_4_writes (by decide +kernel)).trans (corners_at4 m c)

theorem entry_order : (entryContents preI m c (Proc.devRef .tc main_v25) : IVec S5376 32) = Cert.Sweep.order (inputOf m c) := by
  rw [entry_unfolded]
  exact (after_of_writes_sub hostOps0_4 _ hostOps0_4_writes (by decide +kernel)).trans (order_at4 m c)

theorem entry_ratio (i j : Fin 5376) :
    (entryContents preI m c (Proc.devRef .tc main_v90_0) : FVec Ideal S5376x5376 .f32) (ix2 i j)
      = Ideal.div (shared (rowsOf m c) i j) (joint (rowsOf m c) i j) := by
  rw [entry_unfolded]
  exact fifth_ratio (upTo3 (launchContents m c)) (inputOf m c) (corners_at4 m c) (order_at4 m c) i j

theorem entry_scores (j : Fin 5376) :
    (entryContents preI m c (Proc.devRef .tc main_v90_4) : IVec S5376 1) (ix1 j) = BitVec.ofBool (decide (enters (rowsOf m c) j)) := by
  rw [entry_unfolded]
  exact fifth_scores (upTo3 (launchContents m c)) (inputOf m c) (best_at4 m c) (order_at4 m c) j

theorem entry_numbers : (entryContents preI m c (Proc.devRef .tc main_v90_1) : IVec S5376 32) = iotaInDim S5376 32 0 := by
  rw [entry_unfolded]
  exact fifth_numbers _

theorem entry_trip : (entryContents preI m c (Proc.devRef .tc main_v90_3) : IVec S_ 32) = constantI S_ 32 0#32 := by
  rw [entry_unfolded]
  exact fifth_trip _

end Cert.SelectReference
end
-- ==== Proof.SelectLoop.lean ====
module
public import proofs.«01_k».proof.Proof.SelectEntry
@[expose] public section
set_option maxRecDepth 100000
noncomputable section
/-! The reference's loop: after `k` trips the bits are those not suppressed by a kept one among the first `k`. -/
namespace Cert.SelectReference
open Cert.SelectRefIdeal Cert.SelectRefIdeal.Gen Cert.SelectRefIdeal.Value
open Idealize Idealize.ShloMosaic Idealize.ShloMosaic.TcCoe Idealize.ShloMosaic.Tactic
open Idealize.ShloMosaic.StableHlo
open Idealize.SL.Sem Cert.Sweep
open scoped Classical

abbrev wrap (iv : IVec S_ 32) : IVec S_ 32 := select (cmpi .slt iv (constantI S_ 32 0#32)) (addi (id iv) (constantI S_ 32 5376#32)) iv

/-- One trip on the bits: `keep` them, the pairs' `ratio`s, the candidates' numbers and the trip's. -/
def stepBits (keep : IVec S5376 1) (ratio : FVec Ideal S5376x5376 .f32) (num : IVec S5376 32) (iv : IVec S_ 32) : IVec S5376 1 :=
  select (broadcastInDim S5376 ![] bcast_S_S5376 (shapeCast S_ (Host.dynamicSlice S1 keep
      (fun k => (((![wrap iv] : Fin 1 → IVec S_ 32)) k (Shape.Idx.first h_S_)).toInt) sliceFits_S5376_S1) shapeCasts_S1_S_))
    (andi keep (noti (andi (cmpf .ogt (shapeCast S5376 (Host.dynamicSlice S1x5376 ratio
        (fun k => (((![wrap iv, wrap (constantI S_ 32 0#32)] : Fin 2 → IVec S_ 32)) k (Shape.Idx.first h_S_)).toInt) sliceFits_S5376x5376_S1x5376) shapeCasts_S1x5376_S5376)
        (broadcastInDim S5376 ![] bcast_S_S5376 (constant (F := Ideal) S_ .f32 0x3F400000#32)))
      (cmpi .sgt num (broadcastInDim S5376 ![] bcast_S_S5376 (id iv))))))
    keep

theorem step_bits (V0 : Valuation τ sig (Elt Ideal)) : step_main_v90_4 V0
    = stepBits (V0 (Proc.devRef .tc main_v90_4)) (V0 (Proc.devRef .tc main_v90_0)) (V0 (Proc.devRef .tc main_v90_1)) (V0 (Proc.devRef .tc main_v90_3)) := rfl

theorem wrap_toInt (k : ℕ) (hk : k < 2 ^ 31) (i : S_.Idx) : (wrap (constantI S_ 32 (BitVec.ofNat 32 k)) i).toInt = (k : ℤ) := by
  rw [wrap, select_slt_zero_of_nonneg _ _ _ i (by show 0 ≤ (BitVec.ofNat 32 k).toInt; rw [toInt_ofNat_of_lt hk]; omega)]
  exact toInt_ofNat_of_lt hk

theorem own_bit (keep : IVec S5376 1) (k : Fin 5376) :
    shapeCast S_ (Host.dynamicSlice S1 keep
      (fun a => (((![wrap (constantI S_ 32 (BitVec.ofNat 32 k.val))] : Fin 1 → IVec S_ 32)) a (Shape.Idx.first h_S_)).toInt) sliceFits_S5376_S1) shapeCasts_S1_S_ ix0 = keep (ix1 k) := by
  have hk := k.isLt
  have hoff : S5376.Slices (![k.val] : Fin 1 → ℕ) S1 := ⟨rfl, fun a => by fin_cases a; show k.val + 1 ≤ 5376; omega⟩
  rw [Host.dynamicSlice_eq_extractStridedSlice S1 keep _ (![k.val] : Fin 1 → ℕ) sliceFits_S5376_S1 hoff
    (fun a => by fin_cases a; exact wrap_toInt k.val (by omega) _)]
  pointwise []

theorem own_row (ratio : FVec Ideal S5376x5376 .f32) (k j : Fin 5376) :
    shapeCast S5376 (Host.dynamicSlice S1x5376 ratio
      (fun a => (((![wrap (constantI S_ 32 (BitVec.ofNat 32 k.val)), wrap (constantI S_ 32 0#32)] : Fin 2 → IVec S_ 32)) a (Shape.Idx.first h_S_)).toInt) sliceFits_S5376x5376_S1x5376)
      shapeCasts_S1x5376_S5376 (ix1 j) = ratio (ix2 k j) := by
  have hk := k.isLt
  have hoff : S5376x5376.Slices (![k.val, 0] : Fin 2 → ℕ) S1x5376 :=
    ⟨rfl, fun a => by fin_cases a; · show k.val + 1 ≤ 5376; omega
                      · show 0 + 5376 ≤ 5376; omega⟩
  rw [Host.dynamicSlice_eq_extractStridedSlice S1x5376 ratio _ (![k.val, 0] : Fin 2 → ℕ) sliceFits_S5376x5376_S1x5376 hoff
    (fun a => by fin_cases a; · exact wrap_toInt k.val (by omega) _
                 · exact wrap_toInt 0 (by omega) (Shape.Idx.first h_S_))]
  pointwise []

theorem step_apply (b : IVec S_ 1) (row : FVec Ideal S5376 .f32) (keep : IVec S5376 1) (w : BitVec 32) (j : Fin 5376) :
    select (broadcastInDim S5376 ![] bcast_S_S5376 b) (andi keep (noti (andi (cmpf .ogt row (broadcastInDim S5376 ![] bcast_S_S5376 (constant (F := Ideal) S_ .f32 0x3F400000#32)))
      (cmpi .sgt (iotaInDim S5376 32 0) (broadcastInDim S5376 ![] bcast_S_S5376 (id (constantI S_ 32 w))))))) keep (ix1 j)
      = Scalar.select (b ix0) (IntOp.andi (keep (ix1 j)) (~~~ (IntOp.andi (FloatOps.cmpf .ogt (row (ix1 j)) (FloatOps.ofBits .f32 0x3F400000#32 : Ideal .f32))
          (IntOp.cmpi .sgt (BitVec.ofNat 32 j.val) w)))) (keep (ix1 j)) := by
  have hb : broadcastInDim S5376 ![] bcast_S_S5376 b (ix1 j) = b ix0 := congrArg b (funext fun a => a.elim0)
  rw [← hb]
  rfl

theorem step_at (p : Fin 5376 → Prop) (keep : IVec S5376 1) (ratio : FVec Ideal S5376x5376 .f32) (k j : Fin 5376) (h : ∀ j, keep (ix1 j) = BitVec.ofBool (decide (p j))) :
    stepBits keep ratio (iotaInDim S5376 32 0) (constantI S_ 32 (BitVec.ofNat 32 k.val)) (ix1 j)
      = BitVec.ofBool (decide (p j ∧ ¬ (p k ∧ k < j ∧ Ideal.ofBits .f32 0x3F400000#32 < ratio (ix2 k j)))) := by
  have hk := k.isLt
  have hj := j.isLt
  have e : stepBits keep ratio (iotaInDim S5376 32 0) (constantI S_ 32 (BitVec.ofNat 32 k.val)) (ix1 j)
      = Scalar.select (keep (ix1 k)) (IntOp.andi (keep (ix1 j)) (~~~ (IntOp.andi (FloatOps.cmpf .ogt (ratio (ix2 k j)) (FloatOps.ofBits .f32 0x3F400000#32 : Ideal .f32))
          (IntOp.cmpi .sgt (BitVec.ofNat 32 j.val) (BitVec.ofNat 32 k.val))))) (keep (ix1 j)) := by
    rw [← own_bit keep k, ← own_row ratio k j]
    exact step_apply _ _ keep _ j
  rw [e, h, h]
  have hs : IntOp.cmpi .sgt (BitVec.ofNat 32 j.val) (BitVec.ofNat 32 k.val) = BitVec.ofBool (decide (k < j)) := by
    simp only [IntOp.cmpi, BitVec.slt, toInt_ofNat_of_lt (show j.val < 2 ^ 31 by omega), toInt_ofNat_of_lt (show k.val < 2 ^ 31 by omega)]
    congr 1
    simp
  have hr : FloatOps.cmpf .ogt (ratio (ix2 k j)) (FloatOps.ofBits .f32 0x3F400000#32 : Ideal .f32) = BitVec.ofBool (decide (Ideal.ofBits .f32 0x3F400000#32 < ratio (ix2 k j))) := by
    pointwise []
  rw [hs, hr]
  by_cases h1 : p k <;> by_cases h2 : p j <;> by_cases h3 : k < j <;> by_cases h4 : Ideal.ofBits .f32 0x3F400000#32 < ratio (ix2 k j) <;>
    simp only [h1, h2, h3, h4, decide_true, decide_false, true_and, and_true, false_and, and_false, not_true_eq_false, not_false_eq_true] <;> decide

variable [Cert.SelectIdeal.Facts]

theorem alive_next (X : FVec Ideal Cert.SelectIdeal.S5376x40 .f32) (k j : Fin 5376) : alive X (k.val + 1) j ↔ alive X k.val j ∧ ¬ (alive X k.val k ∧ k < j ∧ sup X k j) := by
  rw [alive_kept X (le_refl k.val), alive, alive, and_assoc, ← not_or]
  refine and_congr_right fun _ => not_congr ⟨?_, ?_⟩
  · rintro ⟨i, h1, h2, hk, hs⟩
    by_cases h : i.val < k.val
    · exact .inl ⟨i, h, h2, hk, hs⟩
    · obtain rfl : i = k := Fin.ext (by omega)
      exact .inr ⟨hk, h2, hs⟩
  · rintro (⟨i, h1, h2, hk, hs⟩ | ⟨hk, h2, hs⟩)
    · exact ⟨i, by omega, h2, hk, hs⟩
    · exact ⟨k, by omega, h2, hk, hs⟩

variable (m : (ℓ : Loc nD τ sig) → Buf (Elt Ideal) ℓ) (c : Dev nD)

/-- The carried buffers before trip `k`. -/
structure Before (V : Valuation τ sig (Elt Ideal)) (k : ℕ) : Prop where
  ratio : V (Proc.devRef .tc main_v90_0) = entryContents preI m c (Proc.devRef .tc main_v90_0)
  num : V (Proc.devRef .tc main_v90_1) = entryContents preI m c (Proc.devRef .tc main_v90_1)
  trip : (V (Proc.devRef .tc main_v90_3) : IVec S_ 32) = constantI S_ 32 (BitVec.ofNat 32 k)
  bits : ∀ j : Fin 5376, (V (Proc.devRef .tc main_v90_4) : IVec S5376 1) (ix1 j) = BitVec.ofBool (decide (alive (rowsOf m c) k j))

theorem before (hov : ∀ i j : Fin 5376, i < j → (Ideal.ofBits .f32 0x3F400000#32 < Ideal.div (shared (rowsOf m c) i j) (joint (rowsOf m c) i j) ↔ sup (rowsOf m c) i j)) :
    ∀ k, k ≤ 5376 → Before m c (STEP^[k] (entryContents preI m c)) k
  | 0, _ => ⟨rfl, rfl, entry_trip m c, fun j => by
      refine (entry_scores m c j).trans ?_
      by_cases h : enters (rowsOf m c) j <;> simp [alive_zero, h]⟩
  | k + 1, hk => by
    have ih := before hov k (by omega)
    rw [Function.iterate_succ_apply']
    refine ⟨(STEP_main_v90_0 _).trans ih.ratio, (STEP_main_v90_1 _).trans ih.num, (STEP_main_v90_3 _).trans ?_, fun j => (congrFun (STEP_main_v90_4 _) (ix1 j)).trans ?_⟩
    · unfold step_main_v90_3
      rw [ih.trip]
      funext i
      show BitVec.ofNat 32 k + BitVec.ofNat 32 1 = _
      rw [← BitVec.ofNat_add]; rfl
    · rw [step_bits, ih.ratio, ih.num, ih.trip]
      have hn : (entryContents preI m c (Proc.devRef .tc main_v90_1) : IVec S5376 32) = iotaInDim S5376 32 0 := entry_numbers m c
      rw [hn]
      refine (step_at (alive (rowsOf m c) k) _ _ ⟨k, by omega⟩ j ih.bits).trans ?_
      rw [entry_ratio]
      congr 1
      refine decide_eq_decide.2 ?_
      rw [alive_next (rowsOf m c) ⟨k, by omega⟩ j]
      refine and_congr_right fun _ => not_congr (and_congr_right fun _ => and_congr_right fun hlt => hov _ _ hlt)

end Cert.SelectReference
end
-- ==== Proof.SelectReference.lean ====
module
public import proofs.«01_k».proof.Proof.SelectTail
public import proofs.«01_k».proof.Proof.SelectLoop
@[expose] public section
set_option maxRecDepth 100000
noncomputable section
/-! What the reference leaves: its input as it was, and box, class and score of the first 300 kept candidates. -/
namespace Cert.SelectReference
open Cert.SelectRefIdeal Cert.SelectRefIdeal.Gen Cert.SelectRefIdeal.Value
open Idealize Idealize.ShloMosaic Idealize.ShloMosaic.TcCoe Idealize.ShloMosaic.Tactic
open Idealize.ShloMosaic.StableHlo
open Idealize.SL.Sem Cert.Sweep
open scoped Classical

theorem entry_input (m : (ℓ : Loc nD τ sig) → Buf (Elt Ideal) ℓ) (c : Dev nD) :
    entryContents preI m c (Proc.devRef .tc main_arg0) = inputOf m c := by
  rw [entry_unfolded]
  exact (after_of_writes_sub hostOps0_4 _ hostOps0_4_writes (by decide +kernel)).trans
    ((after_of_writes_sub hostOps0_3 _ hostOps0_3_writes (by decide +kernel)).trans
      ((after_of_writes_sub hostOps0_2 _ hostOps0_2_writes (by decide +kernel)).trans
        ((after_of_writes_sub hostOps0_1 _ hostOps0_1_writes (by decide +kernel)).trans
          (after_of_writes_sub hostOps0 _ hostOps0_writes (by decide +kernel)))))

/-- A buffer the loop does not write is after any number of trips, and after the last test, what it was. -/
theorem trips_keep (m : (ℓ : Loc nD τ sig) → Buf (Elt Ideal) ℓ) (c : Dev nD) (b : Ref sig .tc) (hc : b ∉ condOps_W)
    (h0 : b ∉ while0Ops0_W) (h1 : b ∉ while0Ops0_1_W) (h2 : b ∉ while0Ops0_2_W) (k : ℕ) :
    after condOps (atK m k c) (Proc.devRef .tc b) = entryContents preI m c (Proc.devRef .tc b) := by
  refine (after_of_writes_sub condOps _ condOps_writes hc).trans ?_
  induction k with
  | zero => rfl
  | succ k ih =>
    have hb : ∀ V : Valuation τ sig (Elt Ideal), afterL bodyI V (Proc.devRef .tc b) = V (Proc.devRef .tc b) := fun V => by
      simp only [afterL_cons, afterL_nil]
      exact (after_of_writes_sub while0Ops0_2 _ while0Ops0_2_writes h2).trans
        ((after_of_writes_sub while0Ops0_1 _ while0Ops0_1_writes h1).trans (after_of_writes_sub while0Ops0 _ while0Ops0_writes h0))
    exact (hb _).trans ((after_of_writes_sub condOps _ condOps_writes hc).trans ih)

theorem final_input (m : (ℓ : Loc nD τ sig) → Buf (Elt Ideal) ℓ) (c : Dev nD) :
    finalContents condOps preI bodyI postI 5376 m c (Proc.devRef .tc main_arg0) = inputOf m c :=
  (input_past _).trans ((trips_keep m c main_arg0 (by decide +kernel) (by decide +kernel) (by decide +kernel) (by decide +kernel) 5376).trans (entry_input m c))

variable [Cert.SelectIdeal.Facts] (m : (ℓ : Loc nD τ sig) → Buf (Elt Ideal) ℓ) (c : Dev nD)

abbrev atEnd : Valuation τ sig (Elt Ideal) := after condOps (atK m 5376 c)

theorem end_order : (upTo11 (upTo7 (atEnd m c)) (Proc.devRef .tc main_v25) : IVec S5376 32) = Cert.Sweep.order (inputOf m c) :=
  (order_past _).trans ((trips_keep m c main_v25 (by decide +kernel) (by decide +kernel) (by decide +kernel) (by decide +kernel) 5376).trans (entry_order m c))

theorem end_corners : (upTo11 (upTo7 (atEnd m c)) (Proc.devRef .tc main_v23) : FVec Ideal S5376x4 .f32) = corners (inputOf m c) :=
  (corners_past _).trans ((trips_keep m c main_v23 (by decide +kernel) (by decide +kernel) (by decide +kernel) (by decide +kernel) 5376).trans (entry_corners m c))

theorem end_best : (upTo11 (upTo7 (atEnd m c)) (Proc.devRef .tc main_v4) : FVec Ideal S5376 .f32) = best (inputOf m c) :=
  (best_past _).trans ((trips_keep m c main_v4 (by decide +kernel) (by decide +kernel) (by decide +kernel) (by decide +kernel) 5376).trans (entry_best m c))

theorem end_kind : (upTo11 (upTo7 (atEnd m c)) (Proc.devRef .tc main_v3) : IVec S5376 32) = kind (inputOf m c) :=
  (kind_past _).trans ((trips_keep m c main_v3 (by decide +kernel) (by decide +kernel) (by decide +kernel) (by decide +kernel) 5376).trans (entry_kind m c))

theorem final_unfolded : finalContents condOps preI bodyI postI 5376 m c = after hostOps0_16 (upTo11 (upTo7 (atEnd m c))) := by
  simp only [finalContents, afterL_cons, afterL_nil]

/-- The reference's division reads as the kernel's comparison of every two candidates. -/
abbrev Reads : Prop := ∀ i j : Fin 5376, i < j → (Ideal.ofBits .f32 0x3F400000#32
  < Ideal.div (shared (rowsOf m c) i j) (joint (rowsOf m c) i j) ↔ sup (rowsOf m c) i j)

theorem end_bits (hov : Reads m c) (i : Fin 5376) :
    (atEnd m c (Proc.devRef .tc main_v90_4) : IVec S5376 1) (ix1 i) = BitVec.ofBool (decide (keptAt (rowsOf m c) i.val)) := by
  have hk := cond_keeps (atK m 5376 c) main_v90_4 (by decide)
  have ha := atK_agree m c 5376 main_v90_4 (by decide)
  refine (congrFun (hk.trans ha) _).trans (((before m c hov 5376 le_rfl).bits i).trans ?_)
  exact congrArg BitVec.ofBool (decide_eq_decide.2 ((alive_kept _ (by have := i.isLt; omega)).trans (keptAt_val _ i).symm))

theorem final_boxes (hov : Reads m c) (s : Fin 300) (d : Fin 4) :
    (finalContents condOps preI bodyI postI 5376 m c (Proc.devRef .tc main_v133) : FVec Ideal S300x4 .f32) (ix2 s d) = slotRow (rowsOf m c) s.val ⟨d.val, by omega⟩ := by
  rw [final_unfolded]
  exact chosen_boxes (inputOf m c) _ (end_order m c) (fun s => (slots _ _ (end_bits m c hov) s).1) (fun s => (slots _ _ (end_bits m c hov) s).2) (end_corners m c) s d

theorem final_kinds (hov : Reads m c) (s : Fin 300) :
    (finalContents condOps preI bodyI postI 5376 m c (Proc.devRef .tc main_v143) : FVec Ideal S300x1 .f32) (ix2 s (0 : Fin 1)) = slotRow (rowsOf m c) s.val 5 := by
  rw [final_unfolded]
  exact chosen_kinds (inputOf m c) _ (end_order m c) (fun s => (slots _ _ (end_bits m c hov) s).1) (fun s => (slots _ _ (end_bits m c hov) s).2) (end_kind m c) s

theorem final_scores (hov : Reads m c) (s : Fin 300) :
    (finalContents condOps preI bodyI postI 5376 m c (Proc.devRef .tc main_v152) : FVec Ideal S300x1 .f32) (ix2 s (0 : Fin 1)) = slotRow (rowsOf m c) s.val 4 := by
  rw [final_unfolded]
  exact chosen_scores (inputOf m c) _ (end_order m c) (fun s => (slots _ _ (end_bits m c hov) s).1) (fun s => (slots _ _ (end_bits m c hov) s).2) (end_best m c) s

end Cert.SelectReference
end
-- ==== Proof.Overlap.lean ====
module
public import proofs.«01_k».proof.Proof.Suppress
@[expose] public section
set_option maxRecDepth 65536
noncomputable section
/-! Between boxes with real, ordered corners the kernel's test without a quotient is the reference's test of the quotient. -/
namespace Cert.Sweep
open Idealize Idealize.ShloMosaic Idealize.SL.Sem Cert.SelectIdeal
variable [Cert.SelectIdeal.Facts]

/-- Every row's first four entries are real numbers, left at most right and top at most bottom. -/
structure Boxes (X : FVec Ideal S5376x40 .f32) : Prop where
  real : ∀ (i : Fin 5376) (k : Fin 4), ∃ r : ℝ, X (ix2 i ⟨k.val, by omega⟩) = (r : EReal)
  wide : ∀ i : Fin 5376, X (ix2 i 0) ≤ X (ix2 i 2)
  tall : ∀ i : Fin 5376, X (ix2 i 1) ≤ X (ix2 i 3)

def sideR (a b a' b' : ℝ) : ℝ := max (min b b' - max a a') 0

theorem side_coe (a b a' b' : ℝ) : side (a : EReal) b a' b' = ((sideR a b a' b' : ℝ) : EReal) := by
  have hmono : Monotone ((↑) : ℝ → EReal) := EReal.coe_strictMono.monotone
  unfold side sideR
  rw [hmono.map_max, EReal.coe_sub, hmono.map_max, hmono.map_min, EReal.coe_zero]

theorem sideR_nonneg (a b a' b' : ℝ) : 0 ≤ sideR a b a' b' := le_max_right _ _

theorem sideR_le {a b : ℝ} (a' b' : ℝ) (h : a ≤ b) : sideR a b a' b' ≤ b - a := by
  unfold sideR
  refine max_le ?_ (by linarith)
  have h1 := min_le_left b b'
  have h2 := le_max_left a a'
  linarith

theorem sideR_le' (a b : ℝ) {a' b' : ℝ} (h : a' ≤ b') : sideR a b a' b' ≤ b' - a' := by
  unfold sideR
  refine max_le ?_ (by linarith)
  have h1 := min_le_right b b'
  have h2 := le_max_right a a'
  linarith

theorem small_pos : ∃ e : ℝ, 0 < e ∧ Ideal.ofBits FTy.f32 0x3089705F#32 = (e : EReal) := by
  refine ⟨_, ?_, by simp [Ideal.ofBits, Ideal.ieee]; rfl⟩
  positivity

theorem three_quarters : Ideal.ofBits FTy.f32 0x3F400000#32 = ((3 / 4 : ℝ) : EReal) := by
  simp [Ideal.ofBits, Ideal.ieee]
  rw [← EReal.coe_mul]
  norm_num

theorem two : Ideal.ofBits FTy.f32 0x40000000#32 = ((2 : ℝ) : EReal) := by
  simp [Ideal.ofBits, Ideal.ieee]
  rw [← EReal.coe_mul]
  norm_num

theorem ulp : Ideal.ofBits FTy.f32 0x34000000#32 = ((1 / 8388608 : ℝ) : EReal) := by
  simp [Ideal.ofBits, Ideal.ieee]
  rw [← EReal.coe_mul]
  norm_num

theorem tests_agree (U I : ℝ) (hU : 0 < U) :
    ((3 / 4 : ℝ) : EReal) < Ideal.div (I : EReal) (U : EReal)
      ↔ (U : EReal) * ((1 / 8388608 : ℝ) : EReal) < ((25165825 / 6291456 : ℝ) : EReal) * (I : EReal) - ((2 : ℝ) : EReal) * (U : EReal) - (U : EReal) := by
  have hd : Ideal.div (I : EReal) (U : EReal) = ((I / U : ℝ) : EReal) := by
    unfold Ideal.div
    rw [if_neg (by exact_mod_cast hU.ne'), ← EReal.coe_inv, ← EReal.coe_mul, div_eq_mul_inv]
  rw [hd, EReal.coe_lt_coe_iff, lt_div_iff₀ hU]
  simp only [← EReal.coe_mul, ← EReal.coe_sub, EReal.coe_lt_coe_iff]
  constructor <;> intro h <;> linarith

theorem over_iff_sup (X : FVec Ideal S5376x40 .f32) (hX : Boxes X) (i j : Fin 5376) :
    Ideal.ofBits .f32 0x3F400000#32 < Ideal.div (shared X i j) (joint X i j) ↔ sup X i j := by
  obtain ⟨l, hl⟩ := hX.real i 0
  obtain ⟨t, ht⟩ := hX.real i 1
  obtain ⟨r, hr⟩ := hX.real i 2
  obtain ⟨b, hb⟩ := hX.real i 3
  obtain ⟨l', hl'⟩ := hX.real j 0
  obtain ⟨t', ht'⟩ := hX.real j 1
  obtain ⟨r', hr'⟩ := hX.real j 2
  obtain ⟨b', hb'⟩ := hX.real j 3
  replace hl : X (ix2 i 0) = (l : EReal) := hl
  replace ht : X (ix2 i 1) = (t : EReal) := ht
  replace hr : X (ix2 i 2) = (r : EReal) := hr
  replace hb : X (ix2 i 3) = (b : EReal) := hb
  replace hl' : X (ix2 j 0) = (l' : EReal) := hl'
  replace ht' : X (ix2 j 1) = (t' : EReal) := ht'
  replace hr' : X (ix2 j 2) = (r' : EReal) := hr'
  replace hb' : X (ix2 j 3) = (b' : EReal) := hb'
  have w := hX.wide i
  have v := hX.tall i
  have w' := hX.wide j
  have v' := hX.tall j
  rw [hl, hr, EReal.coe_le_coe_iff] at w
  rw [ht, hb, EReal.coe_le_coe_iff] at v
  rw [hl', hr', EReal.coe_le_coe_iff] at w'
  rw [ht', hb', EReal.coe_le_coe_iff] at v'
  obtain ⟨e, he, hE⟩ := small_pos
  replace hE : Ideal.ofBits FTy.f32 0x3089705F = (e : EReal) := hE
  have hI : shared X i j = ((sideR l r l' r' * sideR t b t' b' : ℝ) : EReal) := by
    unfold shared
    rw [hl, hr, hl', hr', ht, hb, ht', hb', side_coe, side_coe, ← EReal.coe_mul]
  have hU : joint X i j = (((r - l) * (b - t) + (r' - l') * (b' - t') - sideR l r l' r' * sideR t b t' b' + e : ℝ) : EReal) := by
    unfold joint area
    rw [hI, hE, hl, hr, hl', hr', ht, hb, ht', hb']
    simp only [← EReal.coe_mul, ← EReal.coe_sub, ← EReal.coe_add]
  have hle : sideR l r l' r' * sideR t b t' b' ≤ (r - l) * (b - t) :=
    mul_le_mul (sideR_le l' r' w) (sideR_le t' b' v) (sideR_nonneg _ _ _ _) (by linarith)
  have hnn : 0 ≤ (r' - l') * (b' - t') := mul_nonneg (by linarith) (by linarith)
  unfold sup
  rw [hI, hU, three_quarters]
  refine (tests_agree _ _ (by linarith)).trans ?_
  rw [← ulp, ← two]
  exact Iff.rfl

end Cert.Sweep
end
-- ==== Proof.BoxesHold.lean ====
module
public import proofs.«01_k».proof.Proof.Overlap
public import proofs.«01_k».proof.Pre_extents
public import Idealize.ShloMosaic.Lib.ReduceAll
public import proofs.«01_k».proof.Proof.Packed
@[expose] public section
set_option maxRecDepth 100000
noncomputable section
/-! What the precondition says of the rows: each box's corners are finite, and its second corner does not lie before its first. -/
namespace Cert.Sweep
open Idealize Idealize.ShloMosaic Idealize.ShloMosaic.Tactic Cert.Pre_extents Cert.Pre_extents.Facts
variable [Cert.Pre_extents.Facts]

theorem extents_hold (B : FVec Ideal S1x40x5376 .f32) (h : Cert.Pre_extents.fn (F := Ideal) B = fun _ => 1#1) :
    (∀ (k : Fin 4) (r : Fin 5376), ∃ x : ℝ, B (ix3 (0 : Fin 1) ⟨k.val, by omega⟩ r) = (x : EReal))
      ∧ ∀ (d : Fin 2) (r : Fin 5376), (0 : EReal) ≤ B (ix3 (0 : Fin 1) ⟨2 + d.val, by omega⟩ r) := by
  have h0 := congrFun h ix0
  unfold Cert.Pre_extents.fn at h0
  dsimp only at h0
  have both : ∀ a b : BitVec 1, IntOp.andi a b = 1#1 → a = 1#1 ∧ b = 1#1 := by decide
  obtain ⟨ha, hw⟩ := both _ _ h0
  haveI : Subsingleton S_.Idx := ⟨fun a b => funext fun d => d.elim0⟩
  replace ha := fun (k : Fin 4) (r : Fin 5376) => Host.reduce_andi_all _ _ _ _ _ ha (ix2 k r)
  replace hw := fun (d : Fin 2) (r : Fin 5376) => Host.reduce_andi_all _ _ _ _ _ hw (ix2 d r)
  have bit : ∀ (p : Prop) [Decidable p], BitVec.ofBool (decide p) = 1#1 → p := fun p _ hp => by
    by_contra hn
    rw [decide_eq_false hn] at hp
    exact absurd hp (by decide)
  refine ⟨fun k r => ?_, fun d r => ?_⟩
  · have e := ha k r
    pointwise [] at e
    have e2 := bit _ e
    have hinf : Ideal.ofBits FTy.f32 0x7F800000#32 = (⊤ : EReal) := by simp [Ideal.ofBits, Ideal.ieee]
    rw [hinf] at e2
    clear e ha hw h0 h
    generalize B (ix3 0 ⟨k.val, _⟩ r) = x at e2 ⊢
    change EReal at x
    induction x using EReal.rec with
    | bot => exact absurd e2 (by simp [Ideal.absf_def])
    | top => exact absurd e2 (by simp [Ideal.absf_def])
    | coe r => exact ⟨r, rfl⟩
  · have e := hw d r
    pointwise [] at e
    have e2 := bit _ e
    exact e2

theorem ends_real (B : FVec Ideal S1x40x5376 .f32) (h : Cert.Pre_extents.fn (F := Ideal) B = fun _ => 1#1) (r : Fin 5376) (d : Fin 2) :
    ∃ x y : ℝ, x ≤ y ∧ ends B (ix2 r ⟨d.val, by omega⟩) = (x : EReal) ∧ ends B (ix2 r ⟨d.val + 2, by omega⟩) = (y : EReal) := by
  obtain ⟨hr, hn⟩ := extents_hold B h
  obtain ⟨c, hc⟩ := hr ⟨d.val, by omega⟩ r
  obtain ⟨e, he⟩ := hr ⟨2 + d.val, by omega⟩ r
  have h0 := hn d r
  rw [he] at h0
  have h0' : (0 : ℝ) ≤ e := by exact_mod_cast h0
  refine ⟨c - e * (1 / 2), c + e * (1 / 2), by linarith, ?_, ?_⟩
  · rw [ends_low, hc, he, two, Ideal.div_coe (by norm_num)]
    norm_cast
  · rw [ends_high, hc, he, two, Ideal.div_coe (by norm_num)]
    norm_cast

theorem boxes_hold [Cert.SelectIdeal.Facts] (B : FVec Ideal S1x40x5376 .f32) (h : Cert.Pre_extents.fn (F := Ideal) B = fun _ => 1#1) : Boxes (sorted B) := by
  have hc : ∀ (i : Fin 5376) (d : Fin 4), sorted B (ix2 i ⟨d.val, by omega⟩) = ends B (ix2 (rowAt B i) (![1, 0, 3, 2] d)) := fun i d =>
    (sorted_at B i _).trans ((packed_corner B _ d).trans (corners_at B _ d))
  refine ⟨fun i k => ?_, fun i => ?_, fun i => ?_⟩
  · rw [hc]
    obtain ⟨x, y, -, hx, hy⟩ := ends_real B h (rowAt B i) 0
    obtain ⟨x', y', -, hx', hy'⟩ := ends_real B h (rowAt B i) 1
    fin_cases k
    · exact ⟨x', hx'⟩
    · exact ⟨x, hx⟩
    · exact ⟨y', hy'⟩
    · exact ⟨y, hy⟩
  · obtain ⟨x, y, hxy, hx, hy⟩ := ends_real B h (rowAt B i) 1
    refine le_of_eq_of_le ((hc i 0).trans hx) (le_of_le_of_eq (EReal.coe_le_coe_iff.2 hxy) ((hc i 2).trans hy).symm)
  · obtain ⟨x, y, hxy, hx, hy⟩ := ends_real B h (rowAt B i) 0
    refine le_of_eq_of_le ((hc i 1).trans hx) (le_of_le_of_eq (EReal.coe_le_coe_iff.2 hxy) ((hc i 3).trans hy).symm)
end Cert.Sweep
end
-- ==== Proof.SelectClaims.lean ====
module
public import proofs.«01_k».proof.Defs
public import proofs.«01_k».proof.Proof.SelectResult
public import proofs.«01_k».proof.Proof.SelectReference
public import proofs.«01_k».proof.Proof.BoxesHold
public import Idealize.ShloMosaic.Lib.Quiescent
@[expose] public section
set_option maxRecDepth 16384
noncomputable section
/-! The claims about the selection program. -/
namespace Cert.Proof.SelectClaims
open Idealize Idealize.ShloMosaic Idealize.ShloMosaic.TcCoe Idealize.SL.Sem
open Cert.Sweep (selected sorted slotRow)

/-- The program's input. -/
abbrev inputOf (m : (ℓ : Loc Cert.SelectIdeal.nD Cert.SelectIdeal.τ Cert.SelectIdeal.sig) → Buf (Elt Ideal) ℓ) (c : Dev Cert.SelectIdeal.nD) :
    FVec Ideal Cert.SelectIdeal.S1x40x5376 .f32 := m ((c.tc : Thread Cert.SelectIdeal.nD Cert.SelectIdeal.τ).loc Cert.SelectIdeal.main_arg0)

/-- Scores, classes and boxes of the selected candidates. -/
def scores (B : FVec Ideal Cert.SelectIdeal.S1x40x5376 .f32) : FVec Ideal Cert.SelectIdeal.S300x1 .f32 := fun i => slotRow (sorted B) (i 0).val 4
def kinds (B : FVec Ideal Cert.SelectIdeal.S1x40x5376 .f32) : FVec Ideal Cert.SelectIdeal.S300x1 .f32 := fun i => slotRow (sorted B) (i 0).val 5
def boxes (B : FVec Ideal Cert.SelectIdeal.S1x40x5376 .f32) : FVec Ideal Cert.SelectIdeal.S300x4 .f32 :=
  fun i => slotRow (sorted B) (i 0).val ⟨(i 1).val, lt_of_lt_of_le (i 1).isLt (by decide)⟩

theorem column_slice (k : Fin 40) (d : ℕ) (hd : d = k.val) (h : Cert.SelectIdeal.S320x40.Slices ![0, d] Cert.SelectIdeal.S300x1) (X : FVec Ideal Cert.SelectIdeal.S5376x40 .f32) :
    extractStridedSlice Cert.SelectIdeal.S300x1 ![0, d] (selected X) h = fun i => slotRow X (i 0).val k := by
  subst hd
  funext i
  refine congrArg₂ (slotRow X) (Nat.zero_add _) (Fin.ext ?_)
  show k.val + (i 1).val = k.val
  have := (i 1).isLt
  simp at this
  omega

theorem boxes_slice (B : FVec Ideal Cert.SelectIdeal.S1x40x5376 .f32) (h : Cert.SelectIdeal.S320x40.Slices ![0, 0] Cert.SelectIdeal.S300x4) :
    extractStridedSlice Cert.SelectIdeal.S300x4 ![0, 0] (selected (sorted B)) h = boxes B := by
  funext i
  exact congrArg₂ (slotRow (sorted B)) (Nat.zero_add _) (Fin.ext (Nat.zero_add _))

theorem kernel_ends (m : (ℓ : Loc Cert.SelectIdeal.nD Cert.SelectIdeal.τ Cert.SelectIdeal.sig) → Buf (Elt Ideal) ℓ) (ρ : Dev Cert.SelectIdeal.nD → PrngReg) :
    θ_run (Cert.SelectIdeal.defs (F := Ideal)) (onTc (τ := Cert.SelectIdeal.τ) (Cert.SelectIdeal.main (F := Ideal))) ⟨m, fun _ => 0, ρ⟩
      (fun r => (∀ c : Dev Cert.SelectIdeal.nD,
        r.2.mem ((c.tc : Thread Cert.SelectIdeal.nD Cert.SelectIdeal.τ).loc Cert.SelectIdeal.main_v41) = scores (inputOf m c)
        ∧ r.2.mem ((c.tc : Thread Cert.SelectIdeal.nD Cert.SelectIdeal.τ).loc Cert.SelectIdeal.main_v42) = kinds (inputOf m c)
        ∧ r.2.mem ((c.tc : Thread Cert.SelectIdeal.nD Cert.SelectIdeal.τ).loc Cert.SelectIdeal.main_v43) = boxes (inputOf m c)
        ∧ r.2.mem ((c.tc : Thread Cert.SelectIdeal.nD Cert.SelectIdeal.τ).loc Cert.SelectIdeal.main_arg0)
            = m ((c.tc : Thread Cert.SelectIdeal.nD Cert.SelectIdeal.τ).loc Cert.SelectIdeal.main_arg0))
        ∧ r.2.sem = fun _ => 0) :=
  (θ_run Cert.SelectIdeal.defs _ _).mono
    (fun r h => ⟨fun c => ⟨
      ((h.1 c).2 Cert.SelectIdeal.main_v41 (Pipeline.mem_restRefs_of _ (by decide) (by decide))).trans ((Cert.Sweep.tail_scores m c).trans (column_slice 4 4 rfl _ _)),
      ((h.1 c).2 Cert.SelectIdeal.main_v42 (Pipeline.mem_restRefs_of _ (by decide) (by decide))).trans ((Cert.Sweep.tail_kinds m c).trans (column_slice 5 5 rfl _ _)),
      ((h.1 c).2 Cert.SelectIdeal.main_v43 (Pipeline.mem_restRefs_of _ (by decide) (by decide))).trans ((Cert.Sweep.tail_boxes m c).trans (boxes_slice _ _)),
      ((h.1 c).2 Cert.SelectIdeal.main_arg0 (Pipeline.mem_restRefs_of _ (by decide) (by decide))).trans (Cert.Sweep.tail_given m c)⟩, h.2⟩)
    (Cert.Sweep.run_main m ρ)

theorem frame_ideal : Cert.quiescent_SelectIdeal := fun m ρ _ =>
  (θ_run Cert.SelectIdeal.defs _ _).mono (fun _ h => ⟨fun c => (h.1 c).2.2.2, h.2⟩) (kernel_ends m ρ)

/-- The reference is a line of host operations round one loop: it leaves its input and declares no semaphore. -/
theorem frame_reference : Cert.quiescent_SelectRefIdeal := fun m ρ _ =>
  (θ_run Cert.SelectRefIdeal.defs _ _).mono
    (fun r h => ⟨fun c => (h c Cert.SelectRefIdeal.main_arg0 rfl).trans (Cert.SelectReference.final_input m c),
      Idealize.ShloMosaic.sem_eq_zero_of_no_sems (by decide) r.2⟩)
    (Cert.SelectRefIdeal.Value.run_fold (F := Ideal) m ρ)

theorem frame_ideal_extents [Cert.Pre_extents.Facts] : Cert.quiescent_SelectIdeal_pre_extents := fun m ρ _ => frame_ideal m ρ trivial
theorem frame_reference_extents [Cert.Pre_extents.Facts] : Cert.quiescent_SelectRefIdeal_pre_extents := fun m ρ _ => frame_reference m ρ trivial

theorem ix_of_one (i : Cert.SelectIdeal.S300x1.Idx) : i = ix2 (i 0) (0 : Fin 1) :=
  funext fun a => by
    fin_cases a
    · rfl
    · exact Fin.ext (by have := (i 1).isLt; simp at this; simpa using this)

theorem ix_of_four (i : Cert.SelectIdeal.S300x4.Idx) : i = ix2 (i 0) (i 1) :=
  funext fun a => by fin_cases a <;> rfl

/-- The reference ends with the same scores, classes and boxes, wherever its division reads as the kernel's comparison. -/
theorem reference_ends (m : (ℓ : Loc Cert.SelectRefIdeal.nD Cert.SelectRefIdeal.τ Cert.SelectRefIdeal.sig) → Buf (Elt Ideal) ℓ) (ρ : Dev Cert.SelectRefIdeal.nD → PrngReg)
    (hov : ∀ c, Cert.SelectReference.Reads m c) :
    θ_run (Cert.SelectRefIdeal.defs (F := Ideal)) (onTc (τ := Cert.SelectRefIdeal.τ) (Cert.SelectRefIdeal.main (F := Ideal))) ⟨m, fun _ => 0, ρ⟩
      (fun r => ∀ c : Dev Cert.SelectRefIdeal.nD,
        r.2.mem ((c.tc : Thread Cert.SelectRefIdeal.nD Cert.SelectRefIdeal.τ).loc Cert.SelectRefIdeal.main_v152) = scores (Cert.SelectReference.inputOf m c)
        ∧ r.2.mem ((c.tc : Thread Cert.SelectRefIdeal.nD Cert.SelectRefIdeal.τ).loc Cert.SelectRefIdeal.main_v143) = kinds (Cert.SelectReference.inputOf m c)
        ∧ r.2.mem ((c.tc : Thread Cert.SelectRefIdeal.nD Cert.SelectRefIdeal.τ).loc Cert.SelectRefIdeal.main_v133) = boxes (Cert.SelectReference.inputOf m c)
        ∧ r.2.mem ((c.tc : Thread Cert.SelectRefIdeal.nD Cert.SelectRefIdeal.τ).loc Cert.SelectRefIdeal.main_arg0)
            = m ((c.tc : Thread Cert.SelectRefIdeal.nD Cert.SelectRefIdeal.τ).loc Cert.SelectRefIdeal.main_arg0)) := by
  refine (θ_run Cert.SelectRefIdeal.defs _ _).mono (fun r h c => ⟨?_, ?_, ?_, ?_⟩) (Cert.SelectRefIdeal.Value.run_fold (F := Ideal) m ρ)
  · refine (h c Cert.SelectRefIdeal.main_v152 rfl).trans (funext fun i => ?_)
    rw [ix_of_one i]
    exact Cert.SelectReference.final_scores m c (hov c) (i 0)
  · refine (h c Cert.SelectRefIdeal.main_v143 rfl).trans (funext fun i => ?_)
    rw [ix_of_one i]
    exact Cert.SelectReference.final_kinds m c (hov c) (i 0)
  · refine (h c Cert.SelectRefIdeal.main_v133 rfl).trans (funext fun i => ?_)
    rw [ix_of_four i]
    exact Cert.SelectReference.final_boxes m c (hov c) (i 0) (i 1)
  · exact (h c Cert.SelectRefIdeal.main_arg0 rfl).trans (Cert.SelectReference.final_input m c)

/-- Program and reference end with the same scores, classes and boxes. -/
theorem algebraic [Cert.Pre_extents.Facts] : Cert.algebraic_SelectIdeal_SelectRefIdeal_pre_extents := by
  intro m ρ m' ρ' hpre hagree
  have hin : ∀ c, Cert.SelectReference.inputOf m' c = inputOf m c := hagree
  refine ⟨fun c => scores (inputOf m c), fun c => kinds (inputOf m c), fun c => boxes (inputOf m c),
    (θ_run Cert.SelectIdeal.defs _ _).mono (fun _ h => h.1) (kernel_ends m ρ), ?_⟩
  have hov : ∀ c, Cert.SelectReference.Reads m' c := fun c i j _ =>
    Cert.Sweep.over_iff_sup _ (Cert.Sweep.boxes_hold _ ((congrArg _ (hin c)).trans (hpre c))) i j
  refine (θ_run Cert.SelectRefIdeal.defs _ _).mono (fun r h c => ?_) (reference_ends m' ρ' hov)
  have hc := h c
  rw [hin c] at hc
  exact hc

end Cert.Proof.SelectClaims
end
-- ==== Proof.lean ====
module

public import proofs.«01_k».proof.Defs
public import proofs.«01_k».proof.Proof.Gen.Masks
public import proofs.«01_k».proof.Proof.Gen.Masks.Skeleton
public import proofs.«01_k».proof.Proof.Gen.Masks.Launch
public import proofs.«01_k».proof.Proof.Gen.Masks.Points
public import proofs.«01_k».proof.Proof.Gen.Masks.Frame
public import proofs.«01_k».proof.Proof.Gen.MasksIdeal
public import proofs.«01_k».proof.Proof.Gen.MasksIdeal.Skeleton
public import proofs.«01_k».proof.Proof.Gen.MasksIdeal.Launch
public import proofs.«01_k».proof.Proof.Gen.MasksIdeal.Points
public import proofs.«01_k».proof.Proof.Gen.MasksIdeal.Frame
public import proofs.«01_k».proof.Proof.Gen.MasksRefIdeal
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectRefIdeal
public import proofs.«01_k».proof.Proof.Gen.MasksIdeal.Value
public import proofs.«01_k».proof.Proof.Gen.MasksRefIdeal.Run
public import proofs.«01_k».proof.Proof.Gen.MasksRefIdeal.Read
public import proofs.«01_k».proof.Proof.Gen.SelectRefIdeal.Run
public import proofs.«01_k».proof.Proof.Gen.Pre_extents
public import proofs.«01_k».proof.Proof.MaskClaims
public import proofs.«01_k».proof.Proof.SelectClaims
public import Idealize.ShloMosaic.Adequacy
public import Idealize.ShloMosaic.Init

@[expose] public section

noncomputable section

namespace Cert.Proof

open Idealize.ShloMosaic Idealize.SL.Sem Cert.Masks

theorem claim : Cert.Claim := ⟨Cert.Masks.Gen.facts, Cert.MasksIdeal.Gen.facts, Cert.MasksRefIdeal.Gen.facts,
  Cert.SelectIdeal.Gen.facts, Cert.SelectRefIdeal.Gen.facts, Cert.Pre_extents.Gen.facts,
  MaskClaims.frame, MaskClaims.frame_ideal, MaskClaims.frame_reference,
  SelectClaims.frame_ideal, SelectClaims.frame_ideal_extents, SelectClaims.frame_reference, SelectClaims.frame_reference_extents,
  MaskClaims.preserves, MaskClaims.algebraic, SelectClaims.algebraic⟩

end Cert.Proof

end
